-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S64x2x8192 Cert.KernelIdeal.S64x1x8192
  ∧ IdealRules.bf16_pair.Statement Cert.KernelIdeal.S128x128 Cert.KernelIdeal.S64x128
  ∧ IdealRules.bf16_pair.Statement Cert.KernelIdeal.S64x2x128 Cert.KernelIdeal.S64x1x128
  ∧ IdealRules.bf16_pair.Statement Cert.KernelIdeal.S64x2x2048 Cert.KernelIdeal.S64x1x2048
  ∧ IdealRules.bf16_pair.Statement Cert.KernelIdeal.S128x2048 Cert.KernelIdeal.S64x2048

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S4096x7168 : Shape := ⟨2, ![4096, 7168]⟩
abbrev S128x7168 : Shape := ⟨2, ![128, 7168]⟩
abbrev S128x28 : Shape := ⟨2, ![128, 28]⟩
abbrev S_ : Shape := ⟨0, ![]⟩
abbrev S2x8 : Shape := ⟨2, ![2, 8]⟩
abbrev S2x8x128 : Shape := ⟨3, ![2, 8, 128]⟩
abbrev S1x1 : Shape := ⟨2, ![1, 1]⟩
abbrev S128x8192 : Shape := ⟨2, ![128, 8192]⟩
abbrev S4096x512 : Shape := ⟨2, ![4096, 512]⟩
abbrev S128x512 : Shape := ⟨2, ![128, 512]⟩
abbrev S64x8192 : Shape := ⟨2, ![64, 8192]⟩
abbrev S128x128 : Shape := ⟨2, ![128, 128]⟩
abbrev S128x128x1 : Shape := ⟨3, ![128, 128, 1]⟩
abbrev S64x128 : Shape := ⟨2, ![64, 128]⟩
abbrev S1x8x128 : Shape := ⟨3, ![1, 8, 128]⟩
abbrev S8x128 : Shape := ⟨2, ![8, 128]⟩
abbrev S1x128 : Shape := ⟨2, ![1, 128]⟩
abbrev S16x128 : Shape := ⟨2, ![16, 128]⟩
abbrev S32x128 : Shape := ⟨2, ![32, 128]⟩
abbrev S16x128x1 : Shape := ⟨3, ![16, 128, 1]⟩
abbrev S64x512 : Shape := ⟨2, ![64, 512]⟩
abbrev S2048x512 : Shape := ⟨2, ![2048, 512]⟩
abbrev S64x2048 : Shape := ⟨2, ![64, 2048]⟩
abbrev S128x2048 : Shape := ⟨2, ![128, 2048]⟩

abbrev nBuf : Space → Nat
  | .hbm => 10
  | .vmem => 13
  | .smem => 1
  | _ => 0

abbrev bufTy : (tb : Table) → Fin (tcTables nBuf tb) → BufTy
  | .hbm, ⟨0, _⟩ => ⟨S128x1x8192, .bf16⟩
  | .hbm, ⟨1, _⟩ => ⟨S4096x7168, .i8⟩
  | .hbm, ⟨2, _⟩ => ⟨S128x7168, .i8⟩
  | .hbm, ⟨3, _⟩ => ⟨S128x28, .f32⟩
  | .hbm, ⟨4, _⟩ => ⟨S_, .f32⟩
  | .hbm, ⟨5, _⟩ => ⟨S2x8, .f32⟩
  | .hbm, ⟨6, _⟩ => ⟨S2x8x128, .f32⟩
  | .hbm, ⟨7, _⟩ => ⟨S1x1, .f32⟩
  | .hbm, ⟨8, _⟩ => ⟨S128x8192, .bf16⟩
  | .hbm, ⟨9, _⟩ => ⟨S128x7168, .bf16⟩
  | .local _ .vmem, ⟨0, _⟩ => ⟨S128x8192, .bf16⟩
  | .local _ .vmem, ⟨1, _⟩ => ⟨S4096x512, .i8⟩
  | .local _ .vmem, ⟨2, _⟩ => ⟨S4096x512, .i8⟩
  | .local _ .vmem, ⟨3, _⟩ => ⟨S128x512, .i8⟩
  | .local _ .vmem, ⟨4, _⟩ => ⟨S128x512, .i8⟩
  | .local _ .vmem, ⟨5, _⟩ => ⟨S128x28, .f32⟩
  | .local _ .vmem, ⟨6, _⟩ => ⟨S2x8x128, .f32⟩
  | .local _ .vmem, ⟨7, _⟩ => ⟨S128x512, .bf16⟩
  | .local _ .vmem, ⟨8, _⟩ => ⟨S128x512, .bf16⟩
  | .local _ .vmem, ⟨9, _⟩ => ⟨S64x8192, .i32⟩
  | .local _ .vmem, ⟨10, _⟩ => ⟨S128x128, .f32⟩
  | .local _ .vmem, ⟨11, _⟩ => ⟨S128x512, .f32⟩
  | .local _ .vmem, ⟨12, _⟩ => ⟨S128x512, .f32⟩
  | .local _ .smem, ⟨0, _⟩ => ⟨S1x1, .f32⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S64x2x8192 : Shape := ⟨3, ![64, 2, 8192]⟩
abbrev S64x1x8192 : Shape := ⟨3, ![64, 1, 8192]⟩
abbrev S64x2x128 : Shape := ⟨3, ![64, 2, 128]⟩
abbrev S64x1x128 : Shape := ⟨3, ![64, 1, 128]⟩
abbrev S64x2x2048 : Shape := ⟨3, ![64, 2, 2048]⟩
abbrev S64x1x2048 : Shape := ⟨3, ![64, 1, 2048]⟩
  | .local _ .vmem, ⟨9, _⟩ => ⟨S64x2x8192, .bf16⟩
variable {F : FTy → Type} [FloatOps F]
-- ==== ReferenceIdeal.lean ====
abbrev S128x1x8192 : Shape := ⟨3, ![128, 1, 8192]⟩
abbrev S4096x7168 : Shape := ⟨2, ![4096, 7168]⟩
abbrev S128x7168 : Shape := ⟨2, ![128, 7168]⟩
abbrev S128x28 : Shape := ⟨2, ![128, 28]⟩
abbrev S_ : Shape := ⟨0, ![]⟩
abbrev S128x28x256 : Shape := ⟨3, ![128, 28, 256]⟩
abbrev S128x28x1 : Shape := ⟨3, ![128, 28, 1]⟩
abbrev S128x32x7168 : Shape := ⟨3, ![128, 32, 7168]⟩
abbrev S128x1x7168 : Shape := ⟨3, ![128, 1, 7168]⟩
abbrev S128x1x4096 : Shape := ⟨3, ![128, 1, 4096]⟩

abbrev nBuf : Space → Nat
  | .hbm => 207
  | .vmem => 0
  | .smem => 0
  | _ => 0

abbrev hbmTy0_0 (i : Nat) : BufTy := match i % 128 with
  | 0 => ⟨S128x1x8192, .bf16⟩
  | 1 => ⟨S4096x7168, .i8⟩
  | 2 => ⟨S128x7168, .i8⟩
  | 3 => ⟨S128x28, .f32⟩
  | 4 => ⟨S_, .f32⟩
  | 5 => ⟨S128x7168, .i32⟩
  | 6 => ⟨S128x7168, .f32⟩
  | 7 => ⟨S128x28x256, .f32⟩
  | 8 => ⟨S128x28x1, .f32⟩
  | 9 => ⟨S128x28x256, .f32⟩
  | 10 => ⟨S128x28x256, .f32⟩
  | 11 => ⟨S128x28x256, .f32⟩
  | 12 => ⟨S128x28x256, .f32⟩
  | 13 => ⟨S128x7168, .f32⟩
  | 14 => ⟨S4096x7168, .i32⟩
  | 15 => ⟨S_, .i32⟩
  | 16 => ⟨S4096x7168, .i32⟩
  | 17 => ⟨S4096x7168, .i32⟩
  | 18 => ⟨S_, .i32⟩
  | 19 => ⟨S4096x7168, .i32⟩
  | 20 => ⟨S4096x7168, .i32⟩
  | 21 => ⟨S_, .i32⟩
  | 22 => ⟨S4096x7168, .i32⟩
  | 23 => ⟨S4096x7168, .i32⟩
  | 24 => ⟨S_, .i32⟩
  | 25 => ⟨S4096x7168, .i32⟩
  | 26 => ⟨S4096x7168, .i1⟩
  | 27 => ⟨S_, .i32⟩
  | 28 => ⟨S4096x7168, .i32⟩
  | 29 => ⟨S4096x7168, .i32⟩
  | 30 => ⟨S_, .i32⟩
  | 31 => ⟨S4096x7168, .i32⟩
  | 32 => ⟨S4096x7168, .i32⟩
  | 33 => ⟨S_, .i32⟩
  | 34 => ⟨S4096x7168, .i32⟩
  | 35 => ⟨S4096x7168, .i1⟩
  | 36 => ⟨S_, .i32⟩
  | 37 => ⟨S4096x7168, .i32⟩
  | 38 => ⟨S4096x7168, .i32⟩
  | 39 => ⟨S_, .i32⟩
  | 40 => ⟨S4096x7168, .i32⟩
  | 41 => ⟨S4096x7168, .i32⟩
  | 42 => ⟨S_, .i32⟩
  | 43 => ⟨S4096x7168, .i32⟩
  | 44 => ⟨S4096x7168, .i1⟩
  | 45 => ⟨S_, .i32⟩
  | 46 => ⟨S4096x7168, .i32⟩
  | 47 => ⟨S4096x7168, .i32⟩
  | 48 => ⟨S_, .i32⟩
  | 49 => ⟨S4096x7168, .i32⟩
  | 50 => ⟨S4096x7168, .i32⟩
  | 51 => ⟨S_, .i32⟩
  | 52 => ⟨S4096x7168, .i32⟩
  | 53 => ⟨S4096x7168, .i1⟩
  | 54 => ⟨S_, .f32⟩
  | 55 => ⟨S_, .f32⟩
  | 56 => ⟨S4096x7168, .f32⟩
  | 57 => ⟨S4096x7168, .f32⟩
  | 58 => ⟨S4096x7168, .f32⟩
  | 59 => ⟨S_, .f32⟩
  | 60 => ⟨S_, .f32⟩
  | 61 => ⟨S4096x7168, .f32⟩
  | 62 => ⟨S4096x7168, .f32⟩
  | 63 => ⟨S4096x7168, .f32⟩
  | 64 => ⟨S4096x7168, .f32⟩
  | 65 => ⟨S_, .f32⟩
  | 66 => ⟨S_, .f32⟩
  | 67 => ⟨S4096x7168, .f32⟩
  | 68 => ⟨S4096x7168, .f32⟩
  | 69 => ⟨S4096x7168, .f32⟩
  | 70 => ⟨S_, .f32⟩
  | 71 => ⟨S_, .f32⟩
  | 72 => ⟨S4096x7168, .f32⟩
  | 73 => ⟨S4096x7168, .f32⟩
  | 74 => ⟨S4096x7168, .f32⟩
  | 75 => ⟨S4096x7168, .f32⟩
  | 76 => ⟨S4096x7168, .f32⟩
  | 77 => ⟨S_, .f32⟩
  | 78 => ⟨S_, .f32⟩
  | 79 => ⟨S4096x7168, .f32⟩
  | 80 => ⟨S4096x7168, .f32⟩
  | 81 => ⟨S4096x7168, .f32⟩
  | 82 => ⟨S_, .f32⟩
  | 83 => ⟨S_, .f32⟩
  | 84 => ⟨S4096x7168, .f32⟩
  | 85 => ⟨S4096x7168, .f32⟩
  | 86 => ⟨S4096x7168, .f32⟩
  | 87 => ⟨S4096x7168, .f32⟩
  | 88 => ⟨S_, .f32⟩
  | 89 => ⟨S_, .f32⟩
  | 90 => ⟨S4096x7168, .f32⟩
  | 91 => ⟨S4096x7168, .f32⟩
  | 92 => ⟨S4096x7168, .f32⟩
  | 93 => ⟨S_, .f32⟩
  | 94 => ⟨S_, .f32⟩
  | 95 => ⟨S4096x7168, .f32⟩
  | 96 => ⟨S4096x7168, .f32⟩
  | 97 => ⟨S4096x7168, .f32⟩
  | 98 => ⟨S4096x7168, .f32⟩
  | 99 => ⟨S4096x7168, .f32⟩
  | 100 => ⟨S4096x7168, .f32⟩
  | 101 => ⟨S128x32x7168, .f32⟩
  | 102 => ⟨S128x1x7168, .f32⟩
  | 103 => ⟨S128x32x7168, .f32⟩
  | 104 => ⟨S128x32x7168, .f32⟩
  | 105 => ⟨S4096x7168, .f32⟩
  | 106 => ⟨S4096x7168, .bf16⟩
  | 107 => ⟨S4096x7168, .i32⟩
  | 108 => ⟨S_, .i32⟩
  | 109 => ⟨S4096x7168, .i32⟩
  | 110 => ⟨S4096x7168, .i32⟩
  | 111 => ⟨S_, .i32⟩
  | 112 => ⟨S4096x7168, .i32⟩
  | 113 => ⟨S4096x7168, .i32⟩
  | 114 => ⟨S_, .i32⟩
  | 115 => ⟨S4096x7168, .i32⟩
  | 116 => ⟨S4096x7168, .i32⟩
  | 117 => ⟨S_, .i32⟩
  | 118 => ⟨S4096x7168, .i32⟩
  | 119 => ⟨S4096x7168, .i1⟩
  | 120 => ⟨S_, .i32⟩
  | 121 => ⟨S4096x7168, .i32⟩
  | 122 => ⟨S4096x7168, .i32⟩
  | 123 => ⟨S_, .i32⟩
  | 124 => ⟨S4096x7168, .i32⟩
  | 125 => ⟨S4096x7168, .i32⟩
  | 126 => ⟨S_, .i32⟩
  | 127 => ⟨S4096x7168, .i32⟩
  | _ => ⟨S128x1x8192, .bf16⟩

abbrev hbmTy0_1 (i : Nat) : BufTy := match i % 128 with
  | 0 => ⟨S4096x7168, .i1⟩
  | 1 => ⟨S_, .i32⟩
  | 2 => ⟨S4096x7168, .i32⟩
  | 3 => ⟨S4096x7168, .i32⟩
  | 4 => ⟨S_, .i32⟩
  | 5 => ⟨S4096x7168, .i32⟩
  | 6 => ⟨S4096x7168, .i32⟩
  | 7 => ⟨S_, .i32⟩
  | 8 => ⟨S4096x7168, .i32⟩
  | 9 => ⟨S4096x7168, .i1⟩
  | 10 => ⟨S_, .i32⟩
  | 11 => ⟨S4096x7168, .i32⟩
  | 12 => ⟨S4096x7168, .i32⟩
  | 13 => ⟨S_, .i32⟩
  | 14 => ⟨S4096x7168, .i32⟩
  | 15 => ⟨S4096x7168, .i32⟩
  | 16 => ⟨S_, .i32⟩
  | 17 => ⟨S4096x7168, .i32⟩
  | 18 => ⟨S4096x7168, .i1⟩
  | 19 => ⟨S_, .f32⟩
  | 20 => ⟨S_, .f32⟩
  | 21 => ⟨S4096x7168, .f32⟩
  | 22 => ⟨S4096x7168, .f32⟩
  | 23 => ⟨S4096x7168, .f32⟩
  | 24 => ⟨S_, .f32⟩
  | 25 => ⟨S_, .f32⟩
  | 26 => ⟨S4096x7168, .f32⟩
  | 27 => ⟨S4096x7168, .f32⟩
  | 28 => ⟨S4096x7168, .f32⟩
  | 29 => ⟨S4096x7168, .f32⟩
  | 30 => ⟨S_, .f32⟩
  | 31 => ⟨S_, .f32⟩
  | 32 => ⟨S4096x7168, .f32⟩
  | 33 => ⟨S4096x7168, .f32⟩
  | 34 => ⟨S4096x7168, .f32⟩
  | 35 => ⟨S_, .f32⟩
  | 36 => ⟨S_, .f32⟩
  | 37 => ⟨S4096x7168, .f32⟩
  | 38 => ⟨S4096x7168, .f32⟩
  | 39 => ⟨S4096x7168, .f32⟩
  | 40 => ⟨S4096x7168, .f32⟩
  | 41 => ⟨S4096x7168, .f32⟩
  | 42 => ⟨S_, .f32⟩
  | 43 => ⟨S_, .f32⟩
  | 44 => ⟨S4096x7168, .f32⟩
  | 45 => ⟨S4096x7168, .f32⟩
  | 46 => ⟨S4096x7168, .f32⟩
  | 47 => ⟨S_, .f32⟩
  | 48 => ⟨S_, .f32⟩
  | 49 => ⟨S4096x7168, .f32⟩
  | 50 => ⟨S4096x7168, .f32⟩
  | 51 => ⟨S4096x7168, .f32⟩
  | 52 => ⟨S4096x7168, .f32⟩
  | 53 => ⟨S_, .f32⟩
  | 54 => ⟨S_, .f32⟩
  | 55 => ⟨S4096x7168, .f32⟩
  | 56 => ⟨S4096x7168, .f32⟩
  | 57 => ⟨S4096x7168, .f32⟩
  | 58 => ⟨S_, .f32⟩
  | 59 => ⟨S_, .f32⟩
  | 60 => ⟨S4096x7168, .f32⟩
  | 61 => ⟨S4096x7168, .f32⟩
  | 62 => ⟨S4096x7168, .f32⟩
  | 63 => ⟨S4096x7168, .f32⟩
  | 64 => ⟨S4096x7168, .f32⟩
  | 65 => ⟨S4096x7168, .f32⟩
  | 66 => ⟨S128x32x7168, .f32⟩
  | 67 => ⟨S128x1x7168, .f32⟩
  | 68 => ⟨S128x32x7168, .f32⟩
  | 69 => ⟨S128x32x7168, .f32⟩
  | 70 => ⟨S4096x7168, .f32⟩
  | 71 => ⟨S4096x7168, .bf16⟩
  | 72 => ⟨S128x1x4096, .bf16⟩
  | 73 => ⟨S128x1x7168, .f32⟩
  | 74 => ⟨S128x1x4096, .bf16⟩
  | 75 => ⟨S128x1x7168, .f32⟩
  | 76 => ⟨S128x1x7168, .f32⟩
  | 77 => ⟨S128x1x7168, .bf16⟩
  | 78 => ⟨S128x7168, .bf16⟩
  | _ => ⟨S128x1x8192, .bf16⟩

abbrev hbmTy (i : Nat) : BufTy := match i / 128 with
  | 0 => hbmTy0_0 i
  | 1 => hbmTy0_1 i
  | _ => ⟨S128x1x8192, .bf16⟩

abbrev bufTy : (tb : Table) → Fin (tcTables nBuf tb) → BufTy
  | .hbm, ⟨i, _⟩ => hbmTy i
  | _, _ => ⟨S128x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_c_9 : Ref sig .tc := ⟨.hbm, 45, rfl⟩
abbrev main_v30 : Ref sig .tc := ⟨.hbm, 46, rfl⟩
abbrev main_v31 : Ref sig .tc := ⟨.hbm, 47, rfl⟩
abbrev main_c_10 : Ref sig .tc := ⟨.hbm, 48, rfl⟩
abbrev main_v32 : Ref sig .tc := ⟨.hbm, 49, rfl⟩
abbrev main_v33 : Ref sig .tc := ⟨.hbm, 50, rfl⟩
abbrev main_c_11 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_cst_12 : Ref sig .tc := ⟨.hbm, 55, rfl⟩
abbrev main_call0_v0 : Ref sig .tc := ⟨.hbm, 56, rfl⟩
abbrev main_call0_v1 : Ref sig .tc := ⟨.hbm, 57, rfl⟩
abbrev main_v36 : Ref sig .tc := ⟨.hbm, 58, rfl⟩
abbrev main_cst_13 : Ref sig .tc := ⟨.hbm, 59, rfl⟩
abbrev main_cst_14 : Ref sig .tc := ⟨.hbm, 60, rfl⟩
abbrev main_call1_v0 : Ref sig .tc := ⟨.hbm, 61, rfl⟩
abbrev main_call1_v1 : Ref sig .tc := ⟨.hbm, 62, rfl⟩
abbrev main_v37 : Ref sig .tc := ⟨.hbm, 63, rfl⟩
abbrev main_v38 : Ref sig .tc := ⟨.hbm, 64, rfl⟩
abbrev main_cst_15 : Ref sig .tc := ⟨.hbm, 65, rfl⟩
abbrev main_cst_16 : Ref sig .tc := ⟨.hbm, 66, rfl⟩
abbrev main_call3_v0 : Ref sig .tc := ⟨.hbm, 67, rfl⟩
abbrev main_call3_v1 : Ref sig .tc := ⟨.hbm, 68, rfl⟩
abbrev main_v39 : Ref sig .tc := ⟨.hbm, 69, rfl⟩
abbrev main_cst_17 : Ref sig .tc := ⟨.hbm, 70, rfl⟩
abbrev main_cst_18 : Ref sig .tc := ⟨.hbm, 71, rfl⟩
abbrev main_call4_v0 : Ref sig .tc := ⟨.hbm, 72, rfl⟩
abbrev main_call4_v1 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_19 : Ref sig .tc := ⟨.hbm, 77, rfl⟩
abbrev main_cst_20 : Ref sig .tc := ⟨.hbm, 78, rfl⟩
abbrev main_call7_v0 : Ref sig .tc := ⟨.hbm, 79, rfl⟩
abbrev main_call7_v1 : Ref sig .tc := ⟨.hbm, 80, rfl⟩
abbrev main_v43 : Ref sig .tc := ⟨.hbm, 81, rfl⟩
abbrev main_cst_21 : Ref sig .tc := ⟨.hbm, 82, rfl⟩
abbrev main_cst_22 : Ref sig .tc := ⟨.hbm, 83, rfl⟩
abbrev main_call8_v0 : Ref sig .tc := ⟨.hbm, 84, rfl⟩
abbrev main_call8_v1 : Ref sig .tc := ⟨.hbm, 85, rfl⟩
abbrev main_v44 : Ref sig .tc := ⟨.hbm, 86, rfl⟩
abbrev main_v45 : Ref sig .tc := ⟨.hbm, 87, rfl⟩
abbrev main_cst_23 : Ref sig .tc := ⟨.hbm, 88, rfl⟩
abbrev main_cst_24 : Ref sig .tc := ⟨.hbm, 89, rfl⟩
abbrev main_call10_v0 : Ref sig .tc := ⟨.hbm, 90, rfl⟩
abbrev main_call10_v1 : Ref sig .tc := ⟨.hbm, 91, rfl⟩
abbrev main_v46 : Ref sig .tc := ⟨.hbm, 92, rfl⟩
abbrev main_cst_25 : Ref sig .tc := ⟨.hbm, 93, rfl⟩
abbrev main_cst_26 : Ref sig .tc := ⟨.hbm, 94, rfl⟩
abbrev main_call11_v0 : Ref sig .tc := ⟨.hbm, 95, rfl⟩
abbrev main_call11_v1 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_c_27 : Ref sig .tc := ⟨.hbm, 108, rfl⟩
abbrev main_v58 : Ref sig .tc := ⟨.hbm, 109, rfl⟩
abbrev main_v59 : Ref sig .tc := ⟨.hbm, 110, rfl⟩
abbrev main_c_28 : Ref sig .tc := ⟨.hbm, 111, rfl⟩
abbrev main_v60 : Ref sig .tc := ⟨.hbm, 112, rfl⟩
abbrev main_v61 : Ref sig .tc := ⟨.hbm, 113, rfl⟩
abbrev main_c_29 : Ref sig .tc := ⟨.hbm, 114, rfl⟩
abbrev main_v62 : Ref sig .tc := ⟨.hbm, 115, rfl⟩
abbrev main_v63 : Ref sig .tc := ⟨.hbm, 116, rfl⟩
abbrev main_c_30 : Ref sig .tc := ⟨.hbm, 117, rfl⟩
abbrev main_v64 : Ref sig .tc := ⟨.hbm, 118, rfl⟩
abbrev main_v65 : Ref sig .tc := ⟨.hbm, 119, rfl⟩
abbrev main_c_31 : Ref sig .tc := ⟨.hbm, 120, rfl⟩
abbrev main_v66 : Ref sig .tc := ⟨.hbm, 121, rfl⟩
abbrev main_v67 : Ref sig .tc := ⟨.hbm, 122, rfl⟩
abbrev main_c_32 : Ref sig .tc := ⟨.hbm, 123, rfl⟩
abbrev main_v68 : Ref sig .tc := ⟨.hbm, 124, rfl⟩
abbrev main_v69 : Ref sig .tc := ⟨.hbm, 125, rfl⟩
abbrev main_c_33 : Ref sig .tc := ⟨.hbm, 126, rfl⟩
abbrev main_v70 : Ref sig .tc := ⟨.hbm, 127, rfl⟩
abbrev main_v71 : Ref sig .tc := ⟨.hbm, 128, rfl⟩
abbrev main_c_34 : Ref sig .tc := ⟨.hbm, 129, rfl⟩
abbrev main_v72 : Ref sig .tc := ⟨.hbm, 130, rfl⟩
abbrev main_v73 : Ref sig .tc := ⟨.hbm, 131, rfl⟩
abbrev main_c_35 : Ref sig .tc := ⟨.hbm, 132, rfl⟩
abbrev main_v74 : Ref sig .tc := ⟨.hbm, 133, rfl⟩
abbrev main_v75 : Ref sig .tc := ⟨.hbm, 134, rfl⟩
abbrev main_c_36 : Ref sig .tc := ⟨.hbm, 135, rfl⟩
abbrev main_v76 : Ref sig .tc := ⟨.hbm, 136, rfl⟩
abbrev main_v77 : Ref sig .tc := ⟨.hbm, 137, rfl⟩
abbrev main_c_37 : Ref sig .tc := ⟨.hbm, 138, rfl⟩
abbrev main_v78 : Ref sig .tc := ⟨.hbm, 139, rfl⟩
abbrev main_v79 : Ref sig .tc := ⟨.hbm, 140, rfl⟩
abbrev main_c_38 : Ref sig .tc := ⟨.hbm, 141, rfl⟩
abbrev main_v80 : Ref sig .tc := ⟨.hbm, 142, rfl⟩
abbrev main_v81 : Ref sig .tc := ⟨.hbm, 143, rfl⟩
abbrev main_c_39 : Ref sig .tc := ⟨.hbm, 144, rfl⟩
abbrev main_v82 : Ref sig .tc := ⟨.hbm, 145, rfl⟩
abbrev main_v83 : Ref sig .tc := ⟨.hbm, 146, rfl⟩
abbrev main_cst_40 : Ref sig .tc := ⟨.hbm, 147, rfl⟩
abbrev main_cst_41 : Ref sig .tc := ⟨.hbm, 148, rfl⟩
abbrev main_call15_v0 : Ref sig .tc := ⟨.hbm, 149, rfl⟩
abbrev main_call15_v1 : Ref sig .tc := ⟨.hbm, 150, rfl⟩
abbrev main_v84 : Ref sig .tc := ⟨.hbm, 151, rfl⟩
abbrev main_cst_42 : Ref sig .tc := ⟨.hbm, 152, rfl⟩
abbrev main_cst_43 : Ref sig .tc := ⟨.hbm, 153, rfl⟩
abbrev main_call16_v0 : Ref sig .tc := ⟨.hbm, 154, rfl⟩
abbrev main_call16_v1 : Ref sig .tc := ⟨.hbm, 155, rfl⟩
abbrev main_v85 : Ref sig .tc := ⟨.hbm, 156, rfl⟩
abbrev main_v86 : Ref sig .tc := ⟨.hbm, 157, rfl⟩
abbrev main_cst_44 : Ref sig .tc := ⟨.hbm, 158, rfl⟩
abbrev main_cst_45 : Ref sig .tc := ⟨.hbm, 159, rfl⟩
abbrev main_call18_v0 : Ref sig .tc := ⟨.hbm, 160, rfl⟩
abbrev main_call18_v1 : Ref sig .tc := ⟨.hbm, 161, rfl⟩
abbrev main_v87 : Ref sig .tc := ⟨.hbm, 162, rfl⟩
abbrev main_cst_46 : Ref sig .tc := ⟨.hbm, 163, rfl⟩
abbrev main_cst_47 : Ref sig .tc := ⟨.hbm, 164, rfl⟩
abbrev main_call19_v0 : Ref sig .tc := ⟨.hbm, 165, rfl⟩
abbrev main_call19_v1 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_cst_48 : Ref sig .tc := ⟨.hbm, 170, rfl⟩
abbrev main_cst_49 : Ref sig .tc := ⟨.hbm, 171, rfl⟩
abbrev main_call22_v0 : Ref sig .tc := ⟨.hbm, 172, rfl⟩
abbrev main_call22_v1 : Ref sig .tc := ⟨.hbm, 173, rfl⟩
abbrev main_v91 : Ref sig .tc := ⟨.hbm, 174, rfl⟩
abbrev main_cst_50 : Ref sig .tc := ⟨.hbm, 175, rfl⟩
abbrev main_cst_51 : Ref sig .tc := ⟨.hbm, 176, rfl⟩
abbrev main_call23_v0 : Ref sig .tc := ⟨.hbm, 177, rfl⟩
abbrev main_call23_v1 : Ref sig .tc := ⟨.hbm, 178, rfl⟩
abbrev main_v92 : Ref sig .tc := ⟨.hbm, 179, rfl⟩
abbrev main_v93 : Ref sig .tc := ⟨.hbm, 180, rfl⟩
abbrev main_cst_52 : Ref sig .tc := ⟨.hbm, 181, rfl⟩
abbrev main_cst_53 : Ref sig .tc := ⟨.hbm, 182, rfl⟩
abbrev main_call25_v0 : Ref sig .tc := ⟨.hbm, 183, rfl⟩
abbrev main_call25_v1 : Ref sig .tc := ⟨.hbm, 184, rfl⟩
abbrev main_v94 : Ref sig .tc := ⟨.hbm, 185, rfl⟩
abbrev main_cst_54 : Ref sig .tc := ⟨.hbm, 186, rfl⟩
abbrev main_cst_55 : Ref sig .tc := ⟨.hbm, 187, rfl⟩
abbrev main_call26_v0 : Ref sig .tc := ⟨.hbm, 188, rfl⟩
abbrev main_call26_v1 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩

abbrev nD : Nat := 1
abbrev τ : Topo := Topo.v7x

variable {F : FTy → Type} [FloatOps F]
-- ==== Proof.Preserves.lean ====
/-
  The idealization's rewrites, each at its shapes: two bf16 rows held in one 32-bit word are read as the two rows.
-/
module

public import proofs.«01_k».proof.Defs
public import proofs.«01_k».proof.Proof.Gen.KernelIdeal
public import Idealize.ShloMosaic.Lib.Bf16PairInverse

@[expose] public section

namespace Cert.Proof
open Cert.KernelIdeal Idealize.ShloMosaic

theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

end Cert.Proof

end
-- ==== Proof.Block.lean ====
/-
  One block of the idealized kernel, written once.

  The kernel's body decodes 512 tiles of the packed weight (128 quantization blocks by four lane groups), the same few
  operations each time. Here those operations are one function (`decode`), the concatenations are lists indexed by
  block and lane group, and the four partial products are one function of the chunk; `out_A_eq` and `out_B_eq` state
  that what the body leaves at a grid point is that.
-/
module

public import proofs.«01_k».proof.Proof.Gen.KernelIdeal.Value
public import Idealize.ShloMosaic.Lib.Pipeline.Value
public import Idealize.ShloMosaic.Lib.Tactic

@[expose] public section

noncomputable section
open Idealize.ShloMosaic Idealize.ShloMosaic.TcCoe Idealize.SL.Sem

namespace Cert.KernelIdeal.Val
open Cert.KernelIdeal Cert.KernelIdeal.Gen
variable {F : FTy → Type} [FloatOps F]

/-- The 16-row table of one quantization block and lane group: the sixteen levels, scaled by the block's absmax row. -/
def table (lo hi : Vec F S1x8x128 .f32) (a : Vec F S1x128 .f32) : FVec F S16x128 .bf16 :=
  truncf .bf16 (concatenate S16x128 0
    [⟨S8x128, mulf (shapeCast S8x128 lo shapeCasts_S1x8x128_S8x128) (broadcastTo S8x128 a broadcasts_S1x128_S8x128)⟩,
     ⟨S8x128, mulf (shapeCast S8x128 hi shapeCasts_S1x8x128_S8x128) (broadcastTo S8x128 a broadcasts_S1x128_S8x128)⟩]
    concatenates_S8x128_S8x128_S16x128_d0) bitsLt_bf16_f32

/-- The nibbles at shift `s` of both halves of each word, as sixteen rows of row numbers. -/
def nibbles (v : IVec S8x128 32) (s : BitVec 32) : IVec S16x128 32 :=
  extsi 32 (bitcast S16x128 16 (andi (shrui v (broadcast S8x128 s)) (broadcast S8x128 983055#32))
    bitcasts_S8x128_w32_S16x128_w16) natLt_16_32

/-- The table's entry for each of those nibbles. -/
def look (tab : FVec F S16x128 .bf16) (v : IVec S8x128 32) (s : BitVec 32) : FVec F S16x128 .bf16 :=
  dynamicGather 0 tab (shapeCast S16x128 (shapeCast S16x128x1 (nibbles v s) shapeCasts_S16x128_S16x128x1) shapeCasts_S16x128x1_S16x128)

/-- One tile of the packed weight decoded: its four nibble planes, one under the other. -/
def decode (tab : FVec F S16x128 .bf16) (w : Vec F S32x128 .i8) : FVec F S64x128 .bf16 :=
  concatenate S64x128 0
    [⟨S16x128, look tab (bitcast S8x128 32 w bitcasts_S32x128_w8_S8x128_w32) 0#32⟩,
     ⟨S16x128, look tab (bitcast S8x128 32 w bitcasts_S32x128_w8_S8x128_w32) 4#32⟩,
     ⟨S16x128, look tab (bitcast S8x128 32 w bitcasts_S32x128_w8_S8x128_w32) 8#32⟩,
     ⟨S16x128, look tab (bitcast S8x128 32 w bitcasts_S32x128_w8_S8x128_w32) 12#32⟩]
    concatenates_S16x128_S16x128_S16x128_S16x128_S64x128_d0

theorem row_parts : Shape.Concatenates ((List.ofFn fun _ : Fin 4 => (⟨S64x128, fun _ => (0 : Nat)⟩ : (s : Shape) × (s.Idx → Nat))).map (·.1)) S64x512 1 :=
  concatenates_S64x128_S64x128_S64x128_S64x128_S64x512_d1

theorem chunk_parts : Shape.Concatenates ((List.ofFn fun _ : Fin 32 => (⟨S64x512, fun _ => (0 : Nat)⟩ : (s : Shape) × (s.Idx → Nat))).map (·.1)) S2048x512 0 :=
  concatenates_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S64x512_S2048x512_d0

/-- The decoded weight of chunk `kc`: 32 quantization blocks of four tiles. -/
def chunk (lo hi : Vec F S1x8x128 .f32) (amax : Fin 128 → Fin 4 → Vec F S1x128 .f32) (w : Fin 128 → Fin 4 → Vec F S32x128 .i8)
    (kc : Fin 4) : FVec F S2048x512 .bf16 :=
  concatenate S2048x512 0 (List.ofFn fun b : Fin 32 => ⟨S64x512,
    concatenate S64x512 1 (List.ofFn fun c : Fin 4 => ⟨S64x128,
      decode (table lo hi (amax ⟨32 * kc.val + b.val, by omega⟩ c)) (w ⟨32 * kc.val + b.val, by omega⟩ c)⟩) row_parts⟩) chunk_parts

/-- The partial product of one chunk, the activation given as pairs of rows. -/
def part (x : Vec F S64x2x2048 .bf16) (w : FVec F S2048x512 .bf16) : FVec F S128x512 .f32 :=
  matmul dot_S128x2048_S2048x512_S128x512_1_0_0_1_n_n none
    (interleaveRows S128x2048
      (shapeCast S64x2048 (rowsOfParity 0 S64x1x2048 x bitcasts_S64x2x2048_w16_S64x1x2048_w32) shapeCasts_S64x1x2048_S64x2048)
      (shapeCast S64x2048 (rowsOfParity 1 S64x1x2048 x bitcasts_S64x2x2048_w16_S64x1x2048_w32) shapeCasts_S64x1x2048_S64x2048)
      bitcasts_S128x2048_w16_S64x2048_w32)
    w (constant S128x512 .f32 0x00000000#32)

/-- The absmax tile of lane group `h`: code times scale plus offset; the scale's column is the group's, `2 j` or `2 j + 1`. -/
def amaxTile (i : grid0.Coords) (sc : Vec F S128x128 .f32) (off : Elt F .f32) (code : Fin 4 → Vec F S128x128 .i8) (h : Fin 4) :
    FVec F S128x128 .f32 :=
  shapeCast S128x128 (addf (mulf (sitofp .f32 (code h))
    (dynamicGather 1 sc (shapeCast S128x128 (shapeCast S128x128x1
      (broadcast S128x128 (Scalar.addi (Scalar.muli (BitVec.ofNat 32 (i 0).val) 2#32) (BitVec.ofNat 32 (h.val / 2))))
      shapeCasts_S128x128_S128x128x1) shapeCasts_S128x128x1_S128x128)))
    (broadcast S128x128 off)) shapeCasts_S128x128_S128x128

theorem amax_inb (h : Fin 4) : ∀ a, (![0, 128 * h.val] : Fin 2 → Nat) a + S128x128.size a ≤ S128x512.size a := by
  intro a; fin_cases a
  · show 0 + 128 ≤ 128; omega
  · show 128 * h.val + 128 ≤ 512; omega

/-- What is stored into the absmax scratch: its four tiles, the last first. -/
def amaxPieces (i : grid0.Coords) (sc : Vec F S128x128 .f32) (off : Elt F .f32) (code : Fin 4 → Vec F S128x128 .i8) :
    List (View.Piece (Elt F) S128x512 .f32) :=
  List.ofFn fun k : Fin 4 => ⟨Rect.unit ![0, 128 * (3 - k.val)] S128x128.size (amax_inb ⟨3 - k.val, by omega⟩),
    amaxTile i sc off code ⟨3 - k.val, by omega⟩⟩

theorem amaxRow_inb (b : Fin 128) (c : Fin 4) : ∀ a, (![b.val, 128 * c.val] : Fin 2 → Nat) a + S1x128.size a ≤ S128x512.size a := by
  intro a; fin_cases a
  · show b.val + 1 ≤ 128; omega
  · show 128 * c.val + 128 ≤ 512; omega

theorem w_inb (b : Fin 128) (c : Fin 4) : ∀ a, (![32 * b.val, 128 * c.val] : Fin 2 → Nat) a + S32x128.size a ≤ S4096x512.size a := by
  intro a; fin_cases a
  · show 32 * b.val + 32 ≤ 4096; omega
  · show 128 * c.val + 128 ≤ 512; omega

theorem x_inb (kc : Fin 4) : ∀ a, (![0, 0, 2048 * kc.val] : Fin 3 → Nat) a + S64x2x2048.size a ≤ S64x2x8192.size a := by
  intro a; fin_cases a
  · show 0 + 64 ≤ 64; omega
  · show 0 + 2 ≤ 2; omega
  · show 2048 * kc.val + 2048 ≤ 8192; omega

/-- The accumulator's rectangle: all of it. -/
abbrev accRect : Rect S128x512 := Rect.unit ![0, 0] S128x512.size inb_S128x512_S128x512_0_0

/-- The stores into the accumulator through chunk `n`, the last first: each adds a partial product to what a load of
    the whole accumulator reads. -/
def accPieces (v : View sig .tc .vmem S128x512 .f32) (y : Nat → FVec F S128x512 .f32) : Nat → List (View.Piece (Elt F) S128x512 .f32)
  | 0 => [⟨accRect, shapeCast S128x512 (y 0) shapeCasts_S128x512_S128x512⟩]
  | n + 1 => ⟨accRect, shapeCast S128x512 (addf (v.readCov (accPieces v y n) accRect.toLoadRect) (y (n + 1))) shapeCasts_S128x512_S128x512⟩
      :: accPieces v y n

/-- What the body stores at grid point `i`, of what its loads read: the scale scratch `sc`, the offset, the code tiles, the
    two halves of the level table, the packed weight's tiles and the activation's chunks. -/
def outOf (v10 : View sig .tc .vmem S128x512 .f32) (v11 : View sig .tc .vmem S128x512 .f32) (i : grid0.Coords)
    (sc : Vec F S128x128 .f32) (off : Elt F .f32) (code : Fin 4 → Vec F S128x128 .i8) (lo hi : Vec F S1x8x128 .f32)
    (w : Fin 128 → Fin 4 → Vec F S32x128 .i8) (x : Fin 4 → Vec F S64x2x2048 .bf16) : FVec F S128x512 .bf16 :=
  truncf .bf16 (v11.readCov (accPieces v11 (fun n => part (x ⟨n % 4, Nat.mod_lt _ (by decide)⟩)
    (chunk lo hi (fun b c => v10.readCov (amaxPieces i sc off code) (Rect.unit (s := S128x512) ![b.val, 128 * c.val] S1x128.size (amaxRow_inb b c)).toLoadRect)
      w ⟨n % 4, Nat.mod_lt _ (by decide)⟩)) 3) accRect.toLoadRect) bitsLt_bf16_f32

end Cert.KernelIdeal.Val

end
-- ==== Proof.OpenB.lean ====
/-
  What the idealized kernel's body leaves at a grid point after the first, as `Block.lean`'s function of its loads.
-/
module

public import proofs.«01_k».proof.Proof.Block
public import Idealize.ShloMosaic.Lib.Tactic

@[expose] public section

noncomputable section
open Idealize.ShloMosaic Idealize.ShloMosaic.TcCoe Idealize.SL.Sem

namespace Cert.KernelIdeal.Val
open Cert.KernelIdeal Cert.KernelIdeal.Gen
variable {F : FTy → Type} [FloatOps F]

theorem code_inb (h : Fin 4) : ∀ a, (![0, 128 * h.val] : Fin 2 → Nat) a + S128x128.size a ≤ S128x512.size a := amax_inb h

theorem zero2 : (![0, 0] : Fin 2 → Nat) = fun _ => 0 := by funext a; fin_cases a <;> rfl

theorem out_B_open (c : Dev nD) (i : grid0.Coords) (arg1 : Memref sig .tc .smem S1x1 .f32) (harg1 : arg1.IsWhole) (arg2 : Memref sig .tc .vmem S128x8192 .bf16) (harg2 : arg2.IsWhole) (arg3 : Memref sig .tc .vmem S4096x512 .i8) (harg3 : arg3.IsWhole) (arg4 : Memref sig .tc .vmem S128x512 .i8) (harg4 : arg4.IsWhole) (arg5 : Memref sig .tc .vmem S128x28 .f32) (harg5 : arg5.IsWhole) (arg6 : Memref sig .tc .vmem S2x8x128 .f32) (harg6 : arg6.IsWhole) (arg7 : Memref sig .tc .vmem S128x512 .bf16) (harg7 : arg7.IsWhole) (arg8 : Memref sig .tc .vmem S64x2x8192 .bf16) (harg8 : arg8.IsWhole) (arg9 : Memref sig .tc .vmem S128x128 .f32) (harg9 : arg9.IsWhole) (arg10 : Memref sig .tc .vmem S128x512 .f32) (harg10 : arg10.IsWhole) (arg11 : Memref sig .tc .vmem S128x512 .f32) (harg11 : arg11.IsWhole) (hc0 : ¬cond0_0 i)
    (x0 : Vec F S1x1 .f32) (x1 : Vec F S128x8192 .bf16) (x2 : Vec F S4096x512 .i8) (x3 : Vec F S128x512 .i8) (x4 : Vec F S128x28 .f32) (x5 : Vec F S2x8x128 .f32)
    (xs0 : Vec F S64x2x8192 .bf16) (xs1 : Vec F S128x128 .f32) :
    out0_B_6 c i arg1 harg1 arg2 harg2 arg3 harg3 arg4 harg4 arg5 harg5 arg6 harg6 arg7 harg7 arg8 harg8 arg9 harg9 arg10 harg10 arg11 harg11 hc0 x0 x1 x2 x3 x4 x5 xs0 xs1
      = outOf arg10.view arg11.view i
        (View.readAt (Elt F) arg9.view (Rect.unit (s := S128x128) ![0, 0] S128x128.size inb_S128x128_S128x128_0_0).toLoadRect (harg9.unread xs1))
        (View.readAt (Elt F) arg1.view (Rect.unit ![0, 0] S1x1.size inb_S1x1_S1x1_0_0).toLoadRect (harg1.unread x0) (Shape.Idx.first (by decide)))
        (fun h => View.readAt (Elt F) arg4.view (Rect.unit (s := S128x512) ![0, 128 * h.val] S128x128.size (code_inb h)).toLoadRect (harg4.unread x3))
        (View.readAt (Elt F) arg6.view (Rect.unit (s := S2x8x128) ![0, 0, 0] S1x8x128.size inb_S2x8x128_S1x8x128_0_0_0).toLoadRect (harg6.unread x5))
        (View.readAt (Elt F) arg6.view (Rect.unit (s := S2x8x128) ![1, 0, 0] S1x8x128.size inb_S2x8x128_S1x8x128_1_0_0).toLoadRect (harg6.unread x5))
        (fun b c => View.readAt (Elt F) arg3.view (Rect.unit (s := S4096x512) ![32 * b.val, 128 * c.val] S32x128.size (w_inb b c)).toLoadRect (harg3.unread x2))
        (fun kc => View.readAt (Elt F) arg8.view (Rect.unit (s := S64x2x8192) ![0, 0, 2048 * kc.val] S64x2x2048.size (x_inb kc)).toLoadRect (harg8.unread xs0)) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  sl_unfold_words
  rw [View.canon_unit_zero zero2]
  sl_kernel_rfl

end Cert.KernelIdeal.Val

end
-- ==== Proof.OpenA.lean ====
/-
  What the idealized kernel's body leaves at the first grid point: the output as `Block.lean`'s function of its loads, and
  the two scratch buffers it fills there, the permuted activation and the padded scales.
-/
module

public import proofs.«01_k».proof.Proof.OpenB

@[expose] public section

noncomputable section
open Idealize.ShloMosaic Idealize.ShloMosaic.TcCoe Idealize.SL.Sem

namespace Cert.KernelIdeal.Val
open Cert.KernelIdeal Cert.KernelIdeal.Gen
variable {F : FTy → Type} [FloatOps F]

/-- The lane each lane of the permuted activation is taken from: `(l & 64) + 4 (l & 15) + ((l & 63) >> 4)`. -/
def laneSrc : IVec S128x128 32 :=
  addi (addi (andi (iota .tc S128x128 32 [1] iota_S128x128_d1_w32) (broadcast S128x128 64#32))
    (muli (broadcast S128x128 4#32) (andi (andi (iota .tc S128x128 32 [1] iota_S128x128_d1_w32) (broadcast S128x128 63#32)) (broadcast S128x128 15#32))))
    (shrsi (andi (iota .tc S128x128 32 [1] iota_S128x128_d1_w32) (broadcast S128x128 63#32)) (broadcast S128x128 4#32))

/-- The lanes of one 128-lane tile of the activation permuted. -/
def permuted (x : Vec F S128x128 .bf16) : FVec F S128x128 .bf16 :=
  truncf .bf16 (dynamicGather 1 (extf .f32 (shapeCast S128x128 x shapeCasts_S128x128_S128x128) bitsLt_bf16_f32)
    (shapeCast S128x128 (shapeCast S128x128x1 laneSrc shapeCasts_S128x128_S128x128x1) shapeCasts_S128x128x1_S128x128)) bitsLt_bf16_f32

/-- That tile as it is stored: pairs of rows. -/
def xpTile (x : Vec F S128x128 .bf16) : Vec F S64x2x128 .bf16 :=
  interleaveRows S64x2x128
    (shapeCast S64x1x128 (rowsOfParity 0 S64x128 (permuted x) bitcasts_S128x128_w16_S64x128_w32) shapeCasts_S64x128_S64x1x128)
    (shapeCast S64x1x128 (rowsOfParity 1 S64x128 (permuted x) bitcasts_S128x128_w16_S64x128_w32) shapeCasts_S64x128_S64x1x128)
    bitcasts_S64x2x128_w16_S64x1x128_w32

theorem xp_inb (k : Fin 64) : ∀ a, (![0, 0, 128 * k.val] : Fin 3 → Nat) a + S64x2x128.size a ≤ S64x2x8192.size a := by
  intro a; fin_cases a
  · show 0 + 64 ≤ 64; omega
  · show 0 + 2 ≤ 2; omega
  · show 128 * k.val + 128 ≤ 8192; omega

theorem xin_inb (k : Fin 64) : ∀ a, (![0, 128 * k.val] : Fin 2 → Nat) a + S128x128.size a ≤ S128x8192.size a := by
  intro a; fin_cases a
  · show 0 + 128 ≤ 128; omega
  · show 128 * k.val + 128 ≤ 8192; omega

/-- What is stored into the activation scratch, the last tile first. -/
def xpPieces (x : Fin 64 → Vec F S128x128 .bf16) : List (View.Piece (Elt F) S64x2x8192 .bf16) :=
  List.ofFn fun k : Fin 64 => ⟨Rect.unit ![0, 0, 128 * (64 - 1 - k.val)] S64x2x128.size (xp_inb ⟨64 - 1 - k.val, by omega⟩),
    xpTile (x ⟨64 - 1 - k.val, by omega⟩)⟩

/-- What is stored into the scale scratch: zeros, then the scales over its first columns. -/
def scPieces (s : Vec F S128x28 .f32) : List (View.Piece (Elt F) S128x128 .f32) :=
  [⟨Rect.unit ![0, 0] S128x28.size inb_S128x128_S128x28_0_0, shapeCast S128x28 s shapeCasts_S128x28_S128x28⟩,
   ⟨Rect.unit ![0, 0] S128x128.size inb_S128x128_S128x128_0_0,
    shapeCast S128x128 (broadcast S128x128 (Scalar.ofBits .f32 0x00000000#32)) shapeCasts_S128x128_S128x128⟩]

/-- The activation's tiles, as the body loads them. -/
abbrev xTiles (arg2 : Memref sig .tc .vmem S128x8192 .bf16) (harg2 : arg2.IsWhole) (x1 : Vec F S128x8192 .bf16) (k : Fin 64) : Vec F S128x128 .bf16 :=
  View.readAt (Elt F) arg2.view (Rect.unit (s := S128x8192) ![0, 128 * k.val] S128x128.size (xin_inb k)).toLoadRect (harg2.unread x1)

/-- The scales, as the body loads them. -/
abbrev scTile (arg5 : Memref sig .tc .vmem S128x28 .f32) (harg5 : arg5.IsWhole) (x4 : Vec F S128x28 .f32) : Vec F S128x28 .f32 :=
  View.readAt (Elt F) arg5.view (Rect.unit (s := S128x28) ![0, 0] S128x28.size inb_S128x28_S128x28_0_0).toLoadRect (harg5.unread x4)

variable (c : Dev nD) (i : grid0.Coords) (arg1 : Memref sig .tc .smem S1x1 .f32) (harg1 : arg1.IsWhole) (arg2 : Memref sig .tc .vmem S128x8192 .bf16) (harg2 : arg2.IsWhole) (arg3 : Memref sig .tc .vmem S4096x512 .i8) (harg3 : arg3.IsWhole) (arg4 : Memref sig .tc .vmem S128x512 .i8) (harg4 : arg4.IsWhole) (arg5 : Memref sig .tc .vmem S128x28 .f32) (harg5 : arg5.IsWhole) (arg6 : Memref sig .tc .vmem S2x8x128 .f32) (harg6 : arg6.IsWhole) (arg7 : Memref sig .tc .vmem S128x512 .bf16) (harg7 : arg7.IsWhole) (arg8 : Memref sig .tc .vmem S64x2x8192 .bf16) (harg8 : arg8.IsWhole) (arg9 : Memref sig .tc .vmem S128x128 .f32) (harg9 : arg9.IsWhole) (arg10 : Memref sig .tc .vmem S128x512 .f32) (harg10 : arg10.IsWhole) (arg11 : Memref sig .tc .vmem S128x512 .f32) (harg11 : arg11.IsWhole) (hc0 : cond0_0 i)
    (x0 : Vec F S1x1 .f32) (x1 : Vec F S128x8192 .bf16) (x2 : Vec F S4096x512 .i8) (x3 : Vec F S128x512 .i8) (x4 : Vec F S128x28 .f32) (x5 : Vec F S2x8x128 .f32)

theorem out_A_open :
    out0_A_6 c i arg1 harg1 arg2 harg2 arg3 harg3 arg4 harg4 arg5 harg5 arg6 harg6 arg7 harg7 arg8 harg8 arg9 harg9 arg10 harg10 arg11 harg11 hc0 x0 x1 x2 x3 x4 x5
      = outOf arg10.view arg11.view i
        (arg9.view.readCov (scPieces (scTile arg5 harg5 x4)) (Rect.unit (s := S128x128) ![0, 0] S128x128.size inb_S128x128_S128x128_0_0).toLoadRect)
        (View.readAt (Elt F) arg1.view (Rect.unit ![0, 0] S1x1.size inb_S1x1_S1x1_0_0).toLoadRect (harg1.unread x0) (Shape.Idx.first (by decide)))
        (fun h => View.readAt (Elt F) arg4.view (Rect.unit (s := S128x512) ![0, 128 * h.val] S128x128.size (code_inb h)).toLoadRect (harg4.unread x3))
        (View.readAt (Elt F) arg6.view (Rect.unit (s := S2x8x128) ![0, 0, 0] S1x8x128.size inb_S2x8x128_S1x8x128_0_0_0).toLoadRect (harg6.unread x5))
        (View.readAt (Elt F) arg6.view (Rect.unit (s := S2x8x128) ![1, 0, 0] S1x8x128.size inb_S2x8x128_S1x8x128_1_0_0).toLoadRect (harg6.unread x5))
        (fun b c => View.readAt (Elt F) arg3.view (Rect.unit (s := S4096x512) ![32 * b.val, 128 * c.val] S32x128.size (w_inb b c)).toLoadRect (harg3.unread x2))
        (fun kc => arg8.view.readCov (xpPieces (xTiles arg2 harg2 x1)) (Rect.unit (s := S64x2x8192) ![0, 0, 2048 * kc.val] S64x2x2048.size (x_inb kc)).toLoadRect) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero zero2]
  sl_kernel_rfl

theorem xp_A_open : sout0_A_0 c i arg1 harg1 arg2 harg2 arg3 harg3 arg4 harg4 arg5 harg5 arg6 harg6 arg7 harg7 arg8 harg8 arg9 harg9 arg10 harg10 arg11 harg11 hc0 x0 x1 x2 x3 x4 x5 = View.canon (xpPieces (xTiles arg2 harg2 x1)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_kernel_rfl

theorem sc_A_open : sout0_A_1 c i arg1 harg1 arg2 harg2 arg3 harg3 arg4 harg4 arg5 harg5 arg6 harg6 arg7 harg7 arg8 harg8 arg9 harg9 arg10 harg10 arg11 harg11 hc0 x0 x1 x2 x3 x4 x5 = View.canon (scPieces (scTile arg5 harg5 x4)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_kernel_rfl

end Cert.KernelIdeal.Val

end
-- ==== Proof.Nibble.lean ====
/-
  Four-bit codes out of 32-bit words. The kernel reads its packed bytes as 32-bit words, shifts and masks a word so that
  a code is left in each half, and reads the two halves apart; `nib` is the code itself, the byte's low or high four bits.
-/
module

public import proofs.«01_k».proof.Proof.Block
public import Idealize.ShloMosaic.Lib.BitcastFour
public import Idealize.ShloMosaic.Lib.BitcastPair

@[expose] public section

noncomputable section
open Idealize.ShloMosaic Idealize.ShloMosaic.TcCoe Idealize.SL.Sem
open Idealize.ShloMosaic.ValueIdx (ix2 ix3)

namespace Cert.KernelIdeal.Val
open Cert.KernelIdeal Cert.KernelIdeal.Gen

/-- The low (`h = 0`) or high (`h = 1`) four bits of a byte. -/
def nib (b : BitVec 8) (h : Nat) : Nat := b.toNat / 16 ^ h % 16

theorem nib_lt (b : BitVec 8) (h : Nat) : nib b h < 16 := Nat.mod_lt _ (by decide)

/-- One half of a word shifted by `s` and masked: the four bits of the word from bit `16 e + s` on. -/
theorem half_masked (u : BitVec 32) (e : Fin 2) (g : Fin 4) :
    (((u >>> (4 * g.val)) &&& 983055#32).extractLsb' (16 * e.val) 16).signExtend 32 = (u >>> (16 * e.val + 4 * g.val)) &&& 15#32 := by
  have h15 : ∀ i, (15#32).getLsbD i = decide (i < 4) := by
    intro i; by_cases hi : i < 32
    · interval_cases i <;> rfl
    · rw [BitVec.getLsbD_of_ge _ _ (by omega)]; symm; simp; omega
  have hM : ∀ i, (983055#32).getLsbD i = (decide (i < 4) || decide (16 ≤ i ∧ i < 20)) := by
    intro i; by_cases hi : i < 32
    · interval_cases i <;> rfl
    · rw [BitVec.getLsbD_of_ge _ _ (by omega)]; symm; simp; omega
  have hmsb : (((u >>> (4 * g.val)) &&& 983055#32).extractLsb' (16 * e.val) 16).msb = false := by
    rw [BitVec.msb_eq_getLsbD_last, BitVec.getLsbD_extractLsb', BitVec.getLsbD_and, hM]
    have := e.isLt
    simp; intros; omega
  rw [BitVec.signExtend_eq_setWidth_of_msb_false hmsb]
  apply BitVec.eq_of_getLsbD_eq
  intro i hi
  rw [BitVec.getLsbD_setWidth, BitVec.getLsbD_extractLsb', BitVec.getLsbD_and, BitVec.getLsbD_and, hM, h15, BitVec.getLsbD_ushiftRight, BitVec.getLsbD_ushiftRight]
  have e2 := e.isLt
  have : 4 * g.val + (16 * e.val + i) = 16 * e.val + 4 * g.val + i := by omega
  rw [this]
  by_cases h4 : i < 4
  · have : (decide (16 * e.val + i < 4) || decide (16 ≤ 16 * e.val + i ∧ 16 * e.val + i < 20)) = true := by
      simp; omega
    rw [this]; simp [hi, h4]; omega
  · by_cases h16 : i < 16
    · have : (decide (16 * e.val + i < 4) || decide (16 ≤ 16 * e.val + i ∧ 16 * e.val + i < 20)) = false := by
        simp; omega
      rw [this]; simp [h4]
    · simp [h4, h16]

/-- Those four bits are a code of the byte that holds them. -/
theorem word_nib (u : BitVec 32) (b : BitVec 8) (e : Fin 2) (g : Fin 4)
    (hb : ∀ q : Nat, q < 8 → u.getLsbD (8 * (2 * e.val + g.val / 2) + q) = b.getLsbD q) :
    ((u >>> (16 * e.val + 4 * g.val)) &&& 15#32).toNat = nib b (g.val % 2) := by
  have eb : b = u.extractLsb' (8 * (2 * e.val + g.val / 2)) 8 := by
    apply BitVec.eq_of_getLsbD_eq
    intro i hi
    rw [BitVec.getLsbD_extractLsb', ← hb i hi]; simp [hi]
  have ha : ((u >>> (16 * e.val + 4 * g.val)) &&& 15#32).toNat = u.toNat / 2 ^ (16 * e.val + 4 * g.val) % 16 := by
    rw [BitVec.toNat_and, BitVec.toNat_ushiftRight, Nat.shiftRight_eq_div_pow]
    exact Nat.and_two_pow_sub_one_eq_mod _ 4
  rw [ha, eb, nib, BitVec.extractLsb'_toNat, Nat.shiftRight_eq_div_pow]
  obtain ⟨e, he⟩ := e; obtain ⟨g, hg⟩ := g
  interval_cases e <;> interval_cases g <;> simp <;> omega

/-- The row numbers a tile's lookups are made at: at shift `4 g`, row `p` reads byte row `2 p + g / 2` of the tile. -/
theorem nibbles_apply (w : IVec S32x128 8) (g : Fin 4) (p : Fin 16) (l : Fin 128) :
    (nibbles (bitcast S8x128 32 w bitcasts_S32x128_w8_S8x128_w32) (BitVec.ofNat 32 (4 * g.val)) (ix2 p l)).toNat
      = nib (w (ix2 (n0 := 32) (n1 := 128) ⟨2 * p.val + g.val / 2, by omega⟩ l)) (g.val % 2) := by
  have hrow : S16x128.row (ix2 p l) = p.val := rfl
  have hs : bitcasts_S8x128_w32_S16x128_w16.srcIdx (ix2 p l) (S16x128.row (ix2 p l) / 2) (fun a ha => by
        have := bitcasts_S8x128_w32_S16x128_w16.pos_lt (ix2 p l) 0 (by decide) a ha; omega) = ix2 (n0 := 8) (n1 := 128) ⟨p.val / 2, by omega⟩ l := by
    funext c
    match c with
    | ⟨0, _⟩ => exact Fin.ext ((bitcasts_S8x128_w32_S16x128_w16.srcIdx_row _ _ _ ⟨0, Nat.zero_lt_two⟩ rfl))
    | ⟨1, _⟩ => exact Fin.ext (bitcasts_S8x128_w32_S16x128_w16.srcIdx_other _ _ _ ⟨1, Nat.one_lt_two⟩ (by show ¬ 1 + 2 = 2; omega))
  have hg := g.isLt
  have key : nibbles (bitcast S8x128 32 w bitcasts_S32x128_w8_S8x128_w32) (BitVec.ofNat 32 (4 * g.val)) (ix2 p l)
      = ((((bitcast S8x128 32 w bitcasts_S32x128_w8_S8x128_w32 (ix2 ⟨p.val / 2, by omega⟩ l)) >>> (4 * g.val)) &&& 983055#32).extractLsb' (16 * (p.val % 2)) 16).signExtend 32 := by
    show (bitcast S16x128 16 _ bitcasts_S8x128_w32_S16x128_w16 (ix2 p l)).signExtend 32 = _
    rw [bitcast_32_16, hs, hrow]
    congr 2
    show IntOp.andi (IntOp.shrui .vector _ (BitVec.ofNat 32 (4 * g.val))) 983055#32 = _
    unfold IntOp.shrui IntOp.andi
    have ht : (BitVec.ofNat 32 (4 * g.val)).toNat = 4 * g.val := by rw [BitVec.toNat_ofNat]; omega
    rw [if_pos (by rw [ht]; omega), BitVec.ushiftRight_eq', ht]
  rw [key, half_masked _ ⟨p.val % 2, Nat.mod_lt _ (by decide)⟩ g]
  refine word_nib _ _ ⟨p.val % 2, Nat.mod_lt _ (by decide)⟩ g fun q hq => ?_
  rw [bitcast_8_32_getLsbD_ix2 (R := 32) (r := 8) (n := 128) w _ ⟨p.val / 2, by omega⟩ l (8 * (2 * (p.val % 2) + g.val / 2) + q) (by omega) ⟨2 * p.val + g.val / 2, by omega⟩ (by show 2 * p.val + g.val / 2 = 4 * (p.val / 2) + _; omega)]
  congr 1; omega

end Cert.KernelIdeal.Val

end
-- ==== Proof.Weight.lean ====
/-
  The decoded weight, read at an index: one table entry, one tile, one chunk.
-/
module

public import proofs.«01_k».proof.Proof.Nibble
public import Idealize.ShloMosaic.PureOps.Ideal.Laws
public import Idealize.ShloMosaic.Lib.ValueIdx

@[expose] public section

noncomputable section
open Idealize.ShloMosaic Idealize.ShloMosaic.TcCoe Idealize.SL.Sem
open Idealize.ShloMosaic.ValueIdx (ix2 ix3)

namespace Cert.KernelIdeal.Val
open Cert.KernelIdeal Cert.KernelIdeal.Gen

section
variable {F : FTy → Type} [FloatOps F]

/-- A lookup reads the table's row whose number is the code. -/
theorem look_apply (tab : FVec F S16x128 .bf16) (w : IVec S32x128 8) (g : Fin 4) (p : Fin 16) (l : Fin 128) :
    look tab (bitcast S8x128 32 w bitcasts_S32x128_w8_S8x128_w32) (BitVec.ofNat 32 (4 * g.val)) (ix2 p l)
      = tab (ix2 (n0 := 16) (n1 := 128) ⟨nib (w (ix2 (n0 := 32) (n1 := 128) ⟨2 * p.val + g.val / 2, by omega⟩ l)) (g.val % 2), nib_lt _ _⟩ l) := by
  have hc : shapeCast S16x128 (shapeCast S16x128x1 (nibbles (bitcast S8x128 32 w bitcasts_S32x128_w8_S8x128_w32) (BitVec.ofNat 32 (4 * g.val))) shapeCasts_S16x128_S16x128x1) shapeCasts_S16x128x1_S16x128 (ix2 p l)
      = nibbles (bitcast S8x128 32 w bitcasts_S32x128_w8_S8x128_w32) (BitVec.ofNat 32 (4 * g.val)) (ix2 p l) := by
    rw [shapeCast_apply _ _ (ix2 p l) (ix3 (n0 := 16) (n1 := 128) (n2 := 1) p l 0) (by rw [Shape.rowMajor_val_three, Shape.rowMajor_val_two]; show (p.val * 128 + l.val) * 1 + 0 = p.val * 128 + l.val; omega),
      shapeCast_apply _ _ (ix3 (n0 := 16) (n1 := 128) (n2 := 1) p l 0) (ix2 p l) (by rw [Shape.rowMajor_val_three, Shape.rowMajor_val_two]; show p.val * 128 + l.val = (p.val * 128 + l.val) * 1 + 0; omega)]
  unfold look dynamicGather
  dsimp only
  congr 1
  funext b
  match b with
  | ⟨0, _⟩ =>
    apply Fin.ext
    show (shapeCast S16x128 (shapeCast S16x128x1 (nibbles (bitcast S8x128 32 w bitcasts_S32x128_w8_S8x128_w32) (BitVec.ofNat 32 (4 * g.val))) shapeCasts_S16x128_S16x128x1) shapeCasts_S16x128x1_S16x128 (ix2 p l)).toNat % 16 = nib _ _
    rw [hc, nibbles_apply]
    exact Nat.mod_eq_of_lt (nib_lt _ _)
  | ⟨1, _⟩ => rfl

/-- The byte of a tile that holds the code of decoded row `q`, and which half of it. -/
abbrev byteRow (q : Nat) : Nat := 2 * (q % 16) + q / 32
abbrev byteHalf (q : Nat) : Nat := q / 16 % 2

/-- A decoded tile at row `q`: the table's entry for the code of byte row `2 (q % 16) + q / 32`. -/
theorem decode_apply (tab : FVec F S16x128 .bf16) (w : Vec F S32x128 .i8) (q : Fin 64) (l : Fin 128) :
    decode tab w (ix2 q l)
      = tab (ix2 (n0 := 16) (n1 := 128) ⟨nib (w (ix2 (n0 := 32) (n1 := 128) ⟨byteRow q.val, by show 2 * (q.val % 16) + q.val / 32 < 32; omega⟩ l)) (byteHalf q.val), nib_lt _ _⟩ l) := by
  have piece : ∀ g : Fin 4, q.val / 16 = g.val →
      decode tab w (ix2 q l) = look tab (bitcast S8x128 32 w bitcasts_S32x128_w8_S8x128_w32) (BitVec.ofNat 32 (4 * g.val)) (ix2 (⟨q.val % 16, by omega⟩ : Fin 16) l) := by
    intro g hg
    refine concatenate_apply_piece (t := S64x128) 0 _ _ (ix2 q l) g.val (by show g.val < 4; exact g.isLt) S16x128 _ ?_ rfl (16 * g.val) ?_ (ix2 (⟨q.val % 16, by omega⟩ : Fin 16) l) ?_ ?_
    · match g with | ⟨0, _⟩ => rfl | ⟨1, _⟩ => rfl | ⟨2, _⟩ => rfl | ⟨3, _⟩ => rfl
    · match g with | ⟨0, _⟩ => rfl | ⟨1, _⟩ => rfl | ⟨2, _⟩ => rfl | ⟨3, _⟩ => rfl
    · intro b hb
      match b with
      | ⟨0, _⟩ => exact absurd rfl hb
      | ⟨1, _⟩ => rfl
    · show 16 * g.val + q.val % 16 = q.val; omega
  have hg : q.val / 16 < 4 := by omega
  rw [piece ⟨q.val / 16, hg⟩ rfl, look_apply]
  have h1 : 2 * (q.val % 16) + q.val / 16 / 2 = byteRow q.val := by show _ = 2 * (q.val % 16) + q.val / 32; omega
  congr 2
  apply Fin.ext
  show nib _ _ = nib _ _
  congr 3
  exact Fin.ext h1

/-- A chunk at row `r`, column `n`: block `r / 64` of the chunk, lane group `n / 128`. -/
theorem chunk_apply (lo hi : Vec F S1x8x128 .f32) (amax : Fin 128 → Fin 4 → Vec F S1x128 .f32) (w : Fin 128 → Fin 4 → Vec F S32x128 .i8)
    (kc : Fin 4) (r : Fin 2048) (n : Fin 512) :
    chunk lo hi amax w kc (ix2 r n)
      = decode (table lo hi (amax ⟨32 * kc.val + r.val / 64, by omega⟩ ⟨n.val / 128, by omega⟩)) (w ⟨32 * kc.val + r.val / 64, by omega⟩ ⟨n.val / 128, by omega⟩)
          (ix2 (⟨r.val % 64, by omega⟩ : Fin 64) (⟨n.val % 128, by omega⟩ : Fin 128)) := by
  refine (concatenate_ofFn_apply (t := S2048x512) (s₁ := S64x512) 0 (fun b : Fin 32 =>
      concatenate S64x512 1 (List.ofFn fun c : Fin 4 => ⟨S64x128,
        decode (table lo hi (amax ⟨32 * kc.val + b.val, by omega⟩ c)) (w ⟨32 * kc.val + b.val, by omega⟩ c)⟩) row_parts)
    chunk_parts rfl 64 rfl (ix2 r n) (⟨r.val / 64, by omega⟩ : Fin 32) rfl (ix2 (⟨r.val % 64, by omega⟩ : Fin 64) n) rfl
    (fun b hb => by match b with | ⟨0, _⟩ => exact absurd rfl hb | ⟨1, _⟩ => rfl)).trans ?_
  exact concatenate_ofFn_apply (t := S64x512) (s₁ := S64x128) 1 (fun c : Fin 4 =>
        decode (table lo hi (amax ⟨32 * kc.val + r.val / 64, by omega⟩ c)) (w ⟨32 * kc.val + r.val / 64, by omega⟩ c))
    row_parts rfl 128 rfl (ix2 (⟨r.val % 64, by omega⟩ : Fin 64) n) (⟨n.val / 128, by omega⟩ : Fin 4) rfl
    (ix2 (⟨r.val % 64, by omega⟩ : Fin 64) (⟨n.val % 128, by omega⟩ : Fin 128)) rfl
    (fun b hb => by match b with | ⟨0, _⟩ => rfl | ⟨1, _⟩ => exact absurd rfl hb)

end

/-- A table entry: the level times the absmax. -/
theorem table_apply (lo hi : Vec Ideal S1x8x128 .f32) (a : Vec Ideal S1x128 .f32) (k : Fin 16) (l : Fin 128) (v : EReal)
    (hlo : ∀ h : k.val < 8, lo (ix3 (n0 := 1) (n1 := 8) (n2 := 128) 0 ⟨k.val, h⟩ l) = v)
    (hhi : ∀ h : ¬k.val < 8, hi (ix3 (n0 := 1) (n1 := 8) (n2 := 128) 0 ⟨k.val - 8, by omega⟩ l) = v) :
    table lo hi a (ix2 k l) = v * a (ix2 (n0 := 1) (n1 := 128) 0 l) := by
  have hb : ∀ p : Fin 8, broadcastTo S8x128 a broadcasts_S1x128_S8x128 (ix2 p l) = a (ix2 (n0 := 1) (n1 := 128) 0 l) := fun p =>
    broadcastTo_apply a _ (ix2 p l) (ix2 (n0 := 1) (n1 := 128) 0 l) (fun b => by match b with | ⟨0, _⟩ => rfl | ⟨1, _⟩ => rfl)
  have hs : ∀ (x : Vec Ideal S1x8x128 .f32) (p : Fin 8), shapeCast S8x128 x shapeCasts_S1x8x128_S8x128 (ix2 p l) = x (ix3 (n0 := 1) (n1 := 8) (n2 := 128) 0 p l) := fun x p =>
    shapeCast_apply x _ (ix2 p l) (ix3 (n0 := 1) (n1 := 8) (n2 := 128) 0 p l) (by
      rw [Shape.rowMajor_val_three, Shape.rowMajor_val_two]; show (0 * 8 + p.val) * 128 + l.val = p.val * 128 + l.val; omega)
  by_cases h : k.val < 8
  · refine (concatenate_pair_apply_left (t := S16x128) (s₁ := S8x128) (s₂ := S8x128) 0 (mulf (F := Ideal) (φ := .f32) (shapeCast S8x128 lo shapeCasts_S1x8x128_S8x128) (broadcastTo S8x128 a broadcasts_S1x128_S8x128)) (mulf (F := Ideal) (φ := .f32) (shapeCast S8x128 hi shapeCasts_S1x8x128_S8x128) (broadcastTo S8x128 a broadcasts_S1x128_S8x128))
      concatenates_S8x128_S8x128_S16x128_d0 (ix2 k l) rfl (ix2 (⟨k.val, h⟩ : Fin 8) l) (fun b => by match b with | ⟨0, _⟩ => rfl | ⟨1, _⟩ => rfl)).trans ?_
    show shapeCast S8x128 lo shapeCasts_S1x8x128_S8x128 (ix2 (⟨k.val, h⟩ : Fin 8) l) * broadcastTo S8x128 a broadcasts_S1x128_S8x128 (ix2 (⟨k.val, h⟩ : Fin 8) l) = _
    rw [hs, hb, hlo h]
  · refine (concatenate_pair_apply_right (t := S16x128) (s₁ := S8x128) (s₂ := S8x128) 0 (mulf (F := Ideal) (φ := .f32) (shapeCast S8x128 lo shapeCasts_S1x8x128_S8x128) (broadcastTo S8x128 a broadcasts_S1x128_S8x128)) (mulf (F := Ideal) (φ := .f32) (shapeCast S8x128 hi shapeCasts_S1x8x128_S8x128) (broadcastTo S8x128 a broadcasts_S1x128_S8x128))
      concatenates_S8x128_S8x128_S16x128_d0 (ix2 k l) rfl rfl (ix2 (⟨k.val - 8, by omega⟩ : Fin 8) l) (fun b hb => by match b with | ⟨0, _⟩ => exact absurd rfl hb | ⟨1, _⟩ => rfl)
      (by show k.val - 8 + 8 = k.val; omega)).trans ?_
    show shapeCast S8x128 hi shapeCasts_S1x8x128_S8x128 (ix2 (⟨k.val - 8, by omega⟩ : Fin 8) l) * broadcastTo S8x128 a broadcasts_S1x128_S8x128 (ix2 (⟨k.val - 8, by omega⟩ : Fin 8) l) = _
    rw [hs, hb, hhi h]

end Cert.KernelIdeal.Val

end
-- ==== Proof.Part.lean ====
/-
  One chunk's partial product, read at an index: a sum over the chunk's columns.
-/
module

public import proofs.«01_k».proof.Proof.Weight
public import Idealize.ShloMosaic.Lib.Pointwise

@[expose] public section

noncomputable section
open Idealize.ShloMosaic hiding ix2 ix3
open Idealize.ShloMosaic.TcCoe Idealize.SL.Sem
open Idealize.ShloMosaic.ValueIdx (ix2 ix3)

namespace Cert.KernelIdeal.Val
open Cert.KernelIdeal Cert.KernelIdeal.Gen

/-- Row `m` of the activation is half `m % 2` of pair `m / 2`. -/
theorem unpaired_apply {α : Type} (x : S64x2x2048.Idx → α) (m : Fin 128) (k : Fin 2048) :
    interleaveRows S128x2048
      (shapeCast S64x2048 (rowsOfParity 0 S64x1x2048 x bitcasts_S64x2x2048_w16_S64x1x2048_w32) shapeCasts_S64x1x2048_S64x2048)
      (shapeCast S64x2048 (rowsOfParity 1 S64x1x2048 x bitcasts_S64x2x2048_w16_S64x1x2048_w32) shapeCasts_S64x1x2048_S64x2048)
      bitcasts_S128x2048_w16_S64x2048_w32 (ix2 m k)
      = x (ix3 (n0 := 64) (n1 := 2) (n2 := 2048) ⟨m.val / 2, by omega⟩ ⟨m.val % 2, by omega⟩ k) := by
  have hs : ∀ (y : S64x1x2048.Idx → α) (j : S64x2048.Idx) , shapeCast S64x2048 y shapeCasts_S64x1x2048_S64x2048 j = y (ix3 (n0 := 64) (n1 := 1) (n2 := 2048) (j 0) 0 (j 1)) := fun y j =>
    shapeCast_apply y _ j _ (by
      rw [Shape.rowMajor_val_three, Shape.rowMajor_val_two]; show ((j 0).val * 1 + 0) * 2048 + (j 1).val = (j 0).val * 2048 + (j 1).val; omega)
  have hp : ∀ (p : Fin 2) (j : S64x1x2048.Idx), rowsOfParity p S64x1x2048 x bitcasts_S64x2x2048_w16_S64x1x2048_w32 j
      = x (ix3 (n0 := 64) (n1 := 2) (n2 := 2048) (j 0) ⟨2 * (j 1).val + p.val, by have : (j 1).val < 1 := (j 1).isLt; omega⟩ (j 2)) := by
    intro p j
    unfold rowsOfParity
    dsimp only
    congr 1
    funext a
    match a with | ⟨0, _⟩ => rfl | ⟨1, _⟩ => rfl | ⟨2, _⟩ => rfl
  have hr : S128x2048.row (ix2 m k) = m.val := rfl
  unfold interleaveRows
  dsimp only
  rw [hs, hs, hp, hp, hr]
  split
  · congr 1
    funext a
    match a with | ⟨0, _⟩ => rfl | ⟨1, _⟩ => exact Fin.ext (by show 2 * 0 + 0 = m.val % 2; omega) | ⟨2, _⟩ => rfl
  · congr 1
    funext a
    match a with | ⟨0, _⟩ => rfl | ⟨1, _⟩ => exact Fin.ext (by show 2 * 0 + 1 = m.val % 2; omega) | ⟨2, _⟩ => rfl

/-- A matmul from a zero accumulator at an index: the sum over the contracted columns. -/
theorem matmul_zero_apply (x : FVec Ideal S128x2048 .bf16) (w : FVec Ideal S2048x512 .bf16) (m : Fin 128) (n : Fin 512) :
    matmul dot_S128x2048_S2048x512_S128x512_1_0_0_1_n_n none x w (constant S128x512 .f32 0x00000000#32) (Idealize.ShloMosaic.ix2 m n)
      = ∑ k : Fin 2048, (x (Idealize.ShloMosaic.ix2 m k) : EReal) * w (Idealize.ShloMosaic.ix2 k n) := by
  pointwise

/-- One chunk's partial product at an index. -/
theorem part_apply (x : Vec Ideal S64x2x2048 .bf16) (w : FVec Ideal S2048x512 .bf16) (m : Fin 128) (n : Fin 512) :
    part x w (ix2 m n)
      = ∑ k : Fin 2048, (x (ix3 (n0 := 64) (n1 := 2) (n2 := 2048) ⟨m.val / 2, by omega⟩ ⟨m.val % 2, by omega⟩ k) : EReal) * w (ix2 k n) := by
  refine (matmul_zero_apply _ w m n).trans (Finset.sum_congr rfl fun k _ => ?_)
  exact congrArg (fun z : EReal => z * w (ix2 k n)) (unpaired_apply x m k)

end Cert.KernelIdeal.Val

end
-- ==== Proof.Scratch.lean ====
/-
  The kernel's scratch buffers, read at an index: the absmax tiles, the accumulator, the permuted activation, the padded scales.
-/
module

public import proofs.«01_k».proof.Proof.Part
public import proofs.«01_k».proof.Proof.OpenA
public import Idealize.ShloMosaic.Lib.Pipeline.ValueKit.Tiles

@[expose] public section

noncomputable section
open Idealize.ShloMosaic hiding ix2 ix3
open Idealize.ShloMosaic.TcCoe Idealize.SL.Sem
open Idealize.ShloMosaic.ValueIdx (ix2 ix3)

namespace Cert.KernelIdeal.Val
open Cert.KernelIdeal Cert.KernelIdeal.Gen

/-- Adding and dropping a trailing unit axis changes nothing. -/
theorem trailing_unit {α : Type} (x : S128x128.Idx → α) (b l : Fin 128) :
    shapeCast S128x128 (shapeCast S128x128x1 x shapeCasts_S128x128_S128x128x1) shapeCasts_S128x128x1_S128x128 (ix2 b l) = x (ix2 b l) := by
  rw [shapeCast_apply _ _ (ix2 b l) (ix3 (n0 := 128) (n1 := 128) (n2 := 1) b l 0) (by rw [Shape.rowMajor_val_three, Shape.rowMajor_val_two]; show (b.val * 128 + l.val) * 1 + 0 = b.val * 128 + l.val; omega),
      shapeCast_apply _ _ (ix3 (n0 := 128) (n1 := 128) (n2 := 1) b l 0) (ix2 b l) (by rw [Shape.rowMajor_val_three, Shape.rowMajor_val_two]; show b.val * 128 + l.val = (b.val * 128 + l.val) * 1 + 0; omega)]

/-- A cast to the same shape changes nothing. -/
theorem same_shape {α : Type} {s : Shape} (x : s.Idx → α) (h : s.ShapeCasts s) : shapeCast s x h = x :=
  funext fun j => shapeCast_apply x h j j rfl

/-- A lookup along the lanes reads the lane the index names. -/
theorem gather_lane {α : Type} (x : S128x128.Idx → α) (idx : IVec S128x128 32) (b l k : Fin 128) (h : (idx (ix2 b l)).toNat = k.val) :
    dynamicGather 1 x idx (ix2 b l) = x (ix2 b k) := by
  unfold dynamicGather
  congr 1
  funext a
  match a with
  | ⟨0, _⟩ => rfl
  | ⟨1, _⟩ =>
    apply Fin.ext
    show (idx (ix2 b l)).toNat % 128 = k.val
    rw [h]; exact Nat.mod_eq_of_lt k.isLt

/-- One absmax entry: code times the group's scale, plus the offset. -/
theorem amaxTile_apply (i : grid0.Coords) (sc : Vec Ideal S128x128 .f32) (off : Elt Ideal .f32) (code : Fin 4 → Vec Ideal S128x128 .i8) (h : Fin 4)
    (b l : Fin 128) (k : Fin 128) (hk : k.val = 2 * (i 0).val + h.val / 2) :
    amaxTile i sc off code h (ix2 b l)
      = (FloatOps.sitofp (F := Ideal) .f32 (code h (ix2 b l)) : EReal) * sc (ix2 b k) + off := by
  have hi : (i 0).val < 14 := (i 0).isLt
  have hw : (Scalar.addi (Scalar.muli (BitVec.ofNat 32 (i 0).val) 2#32) (BitVec.ofNat 32 (h.val / 2))).toNat = k.val := by
    show (BitVec.ofNat 32 (i 0).val * 2#32 + BitVec.ofNat 32 (h.val / 2)).toNat = k.val
    rw [BitVec.toNat_add, BitVec.toNat_mul, BitVec.toNat_ofNat, BitVec.toNat_ofNat, BitVec.toNat_ofNat]; omega
  unfold amaxTile
  rw [same_shape]
  show (FloatOps.sitofp (F := Ideal) .f32 (code h (ix2 b l)) : EReal) * dynamicGather 1 sc _ (ix2 b l) + off = _
  rw [gather_lane sc _ b l k (by rw [trailing_unit]; exact hw)]

/-- What a load of row `b`, lane group `c` of the absmax scratch reads. -/
theorem amaxRow_apply (v : View sig .tc .vmem S128x512 .f32) (i : grid0.Coords) (sc : Vec Ideal S128x128 .f32) (off : Elt Ideal .f32)
    (code : Fin 4 → Vec Ideal S128x128 .i8) (b : Fin 128) (c : Fin 4) (l : Fin 128) :
    v.readCov (amaxPieces i sc off code) (Rect.unit (s := S128x512) ![b.val, 128 * c.val] S1x128.size (amaxRow_inb b c)).toLoadRect (ix2 (n0 := 1) (n1 := 128) 0 l)
      = amaxTile i sc off code c (ix2 b l) := by
  rw [View.readCov_eq_canon']
  unfold amaxPieces
  refine View.canon_ofFn_unit_eq_of_forall (S := S128x512) (fun k : Fin 4 => ![0, 128 * (3 - k.val)]) S128x128.size _ _ _ _ ?_ ?_
  · refine ⟨⟨3 - c.val, by omega⟩, fun a => ?_⟩
    match a with
    | ⟨0, _⟩ =>
      show 0 ≤ b.val + 1 * 0 ∧ b.val + 1 * 0 < 0 + 128
      omega
    | ⟨1, _⟩ =>
      show 128 * (3 - (3 - c.val)) ≤ 128 * c.val + 1 * l.val ∧ 128 * c.val + 1 * l.val < 128 * (3 - (3 - c.val)) + 128
      omega
  · intro k x hx
    have h0 : (x 0).val = b.val := by
      have := hx 0
      have e : (b.val + 1 * 0) = 0 + (x 0).val := this
      omega
    have h1 : 128 * c.val + 1 * l.val = 128 * (3 - k.val) + (x 1).val := hx 1
    have hx1 : (x 1).val < 128 := (x 1).isLt
    have hc : (⟨3 - k.val, by omega⟩ : Fin 4) = c := Fin.ext (by show 3 - k.val = c.val; omega)
    have he : x = ix2 b l := by
      funext a
      match a with
      | ⟨0, _⟩ => exact Fin.ext h0
      | ⟨1, _⟩ => exact Fin.ext (by show (x 1).val = l.val; have : (3 - k.val) = c.val := congrArg Fin.val hc; omega)
    rw [hc, he]

/-- A load of the whole accumulator after a store of all of it reads what was stored. -/
theorem acc_read (v : View sig .tc .vmem S128x512 .f32) (w : FVec Ideal S128x512 .f32) (L : List (View.Piece (Elt Ideal) S128x512 .f32)) :
    v.readCov (⟨accRect, w⟩ :: L) accRect.toLoadRect = w := by
  rw [View.readCov_eq_canon', View.canon_cons_unit_zero zero2]
  exact View.ld_unit_zero (Val := Elt Ideal) (S := S128x512) (e := .f32) zero2 _ w

/-- The accumulator after one more chunk. -/
theorem acc_succ (v : View sig .tc .vmem S128x512 .f32) (y : Nat → FVec Ideal S128x512 .f32) (n : Nat) (j : S128x512.Idx) :
    v.readCov (accPieces v y (n + 1)) accRect.toLoadRect j = (v.readCov (accPieces v y n) accRect.toLoadRect j + y (n + 1) j : EReal) :=
  congrFun ((acc_read v _ _).trans (same_shape _ _)) j

/-- The accumulator after the four chunks. -/
theorem acc_apply (v : View sig .tc .vmem S128x512 .f32) (y : Nat → FVec Ideal S128x512 .f32) (j : S128x512.Idx) :
    v.readCov (accPieces v y 3) accRect.toLoadRect j = ((y 0 j + y 1 j : EReal) + y 2 j) + y 3 j := by
  have h0 : v.readCov (accPieces v y 0) accRect.toLoadRect j = y 0 j := congrFun ((acc_read v _ _).trans (same_shape _ _)) j
  rw [acc_succ, acc_succ, acc_succ, h0]

/-- The lane that lane `l` of the permuted activation is taken from. -/
abbrev srcLane (l : Nat) : Nat := 64 * (l / 64) + 4 * (l % 16) + l % 64 / 16

theorem laneSrc_apply (r l : Fin 128) : (laneSrc (ix2 r l)).toNat = srcLane l.val := by
  have key : ∀ l : Fin 128, (((BitVec.ofNat 32 l.val &&& 64#32) + 4#32 * (BitVec.ofNat 32 l.val &&& 63#32 &&& 15#32)) + IntOp.shrsi .vector (BitVec.ofNat 32 l.val &&& 63#32) 4#32).toNat = srcLane l.val := by
    decide +kernel
  have hi : iota .tc S128x128 32 [1] iota_S128x128_d1_w32 (ix2 r l) = BitVec.ofNat 32 l.val := iota_single_apply _ _ _ _ _ _
  show (((iota .tc S128x128 32 [1] iota_S128x128_d1_w32 (ix2 r l) &&& 64#32) + 4#32 * (iota .tc S128x128 32 [1] iota_S128x128_d1_w32 (ix2 r l) &&& 63#32 &&& 15#32))
    + IntOp.shrsi .vector (iota .tc S128x128 32 [1] iota_S128x128_d1_w32 (ix2 r l) &&& 63#32) 4#32).toNat = _
  rw [hi]
  exact key l

theorem permuted_apply (x : Vec Ideal S128x128 .bf16) (r l : Fin 128) :
    permuted x (ix2 r l) = x (ix2 r (⟨srcLane l.val, by show 64 * (l.val / 64) + 4 * (l.val % 16) + l.val % 64 / 16 < 128; omega⟩ : Fin 128)) := by
  unfold permuted
  rw [same_shape]
  exact gather_lane (α := EReal) x _ r l _ (by rw [trailing_unit, laneSrc_apply])

/-- A tile of pairs of rows: half `p` of pair `a` is row `2 a + p`. -/
theorem xpTile_apply (x : Vec Ideal S128x128 .bf16) (a : Fin 64) (p : Fin 2) (l : Fin 128) :
    xpTile x (ix3 a p l) = permuted x (ix2 (⟨2 * a.val + p.val, by omega⟩ : Fin 128) l) := by
  have hs : ∀ (y : Vec Ideal S64x128 .bf16) (j : S64x1x128.Idx), shapeCast S64x1x128 y shapeCasts_S64x128_S64x1x128 j = y (ix2 (n0 := 64) (n1 := 128) (j 0) (j 2)) := fun y j =>
    shapeCast_apply y _ j _ (by
      have : (j 1).val < 1 := (j 1).isLt
      rw [Shape.rowMajor_val_three, Shape.rowMajor_val_two]; show (j 0).val * 128 + (j 2).val = ((j 0).val * 1 + (j 1).val) * 128 + (j 2).val; omega)
  have hp : ∀ (q : Fin 2) (j : S64x128.Idx), rowsOfParity q S64x128 (permuted x) bitcasts_S128x128_w16_S64x128_w32 j
      = permuted x (ix2 (n0 := 128) (n1 := 128) ⟨2 * (j 0).val + q.val, by have : (j 0).val < 64 := (j 0).isLt; omega⟩ (j 1)) := by
    intro q j
    unfold rowsOfParity
    dsimp only
    congr 1
    funext a
    match a with | ⟨0, _⟩ => rfl | ⟨1, _⟩ => rfl
  have hr : S64x2x128.row (ix3 a p l) = p.val := rfl
  unfold xpTile interleaveRows
  dsimp only
  rw [hs, hs, hp, hp, hr]
  split
  · congr 1
    funext b
    match b with | ⟨0, _⟩ => exact Fin.ext (by show 2 * a.val + 0 = 2 * a.val + p.val; omega) | ⟨1, _⟩ => rfl
  · congr 1
    funext b
    match b with | ⟨0, _⟩ => exact Fin.ext (by show 2 * a.val + 1 = 2 * a.val + p.val; omega) | ⟨1, _⟩ => rfl

/-- The activation scratch at an index: column `128 c + l` of row `2 a + p` is column `srcLane l` of tile `c`. -/
theorem xp_apply (x : Fin 64 → Vec Ideal S128x128 .bf16) (a : Fin 64) (p : Fin 2) (k : Fin 8192) :
    View.canon (xpPieces x) (ix3 (n0 := 64) (n1 := 2) (n2 := 8192) a p k)
      = x ⟨k.val / 128, by omega⟩ (ix2 (⟨2 * a.val + p.val, by omega⟩ : Fin 128)
          (⟨srcLane (k.val % 128), by show 64 * (k.val % 128 / 64) + 4 * (k.val % 128 % 16) + k.val % 128 % 64 / 16 < 128; omega⟩ : Fin 128)) := by
  have hkm : k.val % 128 < 128 := Nat.mod_lt _ (by decide)
  unfold xpPieces
  refine View.canon_ofFn_unit_eq_of_forall (S := S64x2x8192) (fun c : Fin 64 => ![0, 0, 128 * (64 - 1 - c.val)]) S64x2x128.size _ _ _ _ ?_ ?_
  · refine ⟨⟨63 - k.val / 128, by omega⟩, fun b => ?_⟩
    match b with
    | ⟨0, _⟩ => show 0 ≤ a.val ∧ a.val < 0 + 64; omega
    | ⟨1, _⟩ => show 0 ≤ p.val ∧ p.val < 0 + 2; omega
    | ⟨2, _⟩ => show 128 * (64 - 1 - (63 - k.val / 128)) ≤ k.val ∧ k.val < 128 * (64 - 1 - (63 - k.val / 128)) + 128; omega
  · intro c z hz
    have h0 : a.val = 0 + (z 0).val := hz 0
    have h1 : p.val = 0 + (z 1).val := hz 1
    have h2 : k.val = 128 * (64 - 1 - c.val) + (z 2).val := hz 2
    have hz2 : (z 2).val < 128 := (z 2).isLt
    have hc : (⟨64 - 1 - c.val, by omega⟩ : Fin 64) = ⟨k.val / 128, by omega⟩ := Fin.ext (by show 64 - 1 - c.val = k.val / 128; omega)
    have he : z = ix3 a p (⟨k.val % 128, hkm⟩ : Fin 128) := by
      funext b
      match b with
      | ⟨0, _⟩ => exact Fin.ext (by show (z 0).val = a.val; omega)
      | ⟨1, _⟩ => exact Fin.ext (by show (z 1).val = p.val; omega)
      | ⟨2, _⟩ => exact Fin.ext (by show (z 2).val = k.val % 128; omega)
    subst he
    rw [hc, xpTile_apply, permuted_apply]

/-- The scale scratch at one of its first 28 columns is the scale. -/
theorem sc_apply (s : Vec Ideal S128x28 .f32) (b : Fin 128) (k : Fin 28) :
    View.canon (scPieces s) (ix2 (n0 := 128) (n1 := 128) b ⟨k.val, by omega⟩) = s (ix2 b k) := by
  have he : (ix2 (n0 := 128) (n1 := 128) b ⟨k.val, by omega⟩ : S128x128.Idx)
      = (Rect.unit (s := S128x128) ![0, 0] S128x28.size inb_S128x128_S128x28_0_0).emb (ix2 (n0 := 128) (n1 := 28) b k) := by
    funext a
    match a with
    | ⟨0, _⟩ => exact Fin.ext (by show b.val = 0 + 1 * b.val; omega)
    | ⟨1, _⟩ => exact Fin.ext (by show k.val = 0 + 1 * k.val; omega)
  unfold scPieces
  rw [he, View.canon_cons_emb, same_shape]

end Cert.KernelIdeal.Val

end
-- ==== Proof.Out.lean ====
/-
  One block of the kernel's output, read at an index.
-/
module

public import proofs.«01_k».proof.Proof.Scratch

@[expose] public section

noncomputable section
open Idealize.ShloMosaic hiding ix2 ix3
open Idealize.ShloMosaic.TcCoe Idealize.SL.Sem
open Idealize.ShloMosaic.ValueIdx (ix2 ix3)

namespace Cert.KernelIdeal.Val
open Cert.KernelIdeal Cert.KernelIdeal.Gen

/-- The product at column `k` of chunk `kc`, over what the body's loads read: the activation times the decoded weight,
    a level times the absmax of the block and column group. -/
def blockTerm (g : Fin 28) (sc : Vec Ideal S128x128 .f32) (off : Elt Ideal .f32) (code : Fin 4 → Vec Ideal S128x128 .i8)
    (L : Fin 16 → EReal) (w : Fin 128 → Fin 4 → Vec Ideal S32x128 .i8) (x : Fin 4 → Vec Ideal S64x2x2048 .bf16)
    (m : Fin 128) (n : Fin 512) (kc : Fin 4) (k : Fin 2048) : EReal :=
  (x kc (ix3 (n0 := 64) (n1 := 2) (n2 := 2048) ⟨m.val / 2, by omega⟩ ⟨m.val % 2, by omega⟩ k) : EReal)
    * (L ⟨nib (w ⟨32 * kc.val + k.val / 64, by omega⟩ ⟨n.val / 128, by omega⟩
          (ix2 (n0 := 32) (n1 := 128) ⟨byteRow (k.val % 64), by show 2 * (k.val % 64 % 16) + k.val % 64 / 32 < 32; omega⟩ ⟨n.val % 128, by omega⟩)) (byteHalf (k.val % 64)), nib_lt _ _⟩
      * ((FloatOps.sitofp (F := Ideal) .f32 (code ⟨n.val / 128, by omega⟩ (ix2 (n0 := 128) (n1 := 128) ⟨32 * kc.val + k.val / 64, by omega⟩ ⟨n.val % 128, by omega⟩)) : EReal)
          * sc (ix2 (n0 := 128) (n1 := 128) ⟨32 * kc.val + k.val / 64, by omega⟩ ⟨g.val, by omega⟩) + off))

/-- The body's output at an index: the four chunks' sums, added in order. -/
theorem outOf_apply (v10 v11 : View sig .tc .vmem S128x512 .f32) (i : grid0.Coords)
    (sc : Vec Ideal S128x128 .f32) (off : Elt Ideal .f32) (code : Fin 4 → Vec Ideal S128x128 .i8) (lo hi : Vec Ideal S1x8x128 .f32)
    (w : Fin 128 → Fin 4 → Vec Ideal S32x128 .i8) (x : Fin 4 → Vec Ideal S64x2x2048 .bf16) (L : Fin 16 → EReal)
    (hlo : ∀ (k : Fin 16) (l : Fin 128) (h : k.val < 8), lo (ix3 (n0 := 1) (n1 := 8) (n2 := 128) 0 ⟨k.val, h⟩ l) = L k)
    (hhi : ∀ (k : Fin 16) (l : Fin 128) (_ : ¬k.val < 8), hi (ix3 (n0 := 1) (n1 := 8) (n2 := 128) 0 ⟨k.val - 8, by omega⟩ l) = L k)
    (m : Fin 128) (n : Fin 512) (g : Fin 28) (hg : g.val = 2 * (i 0).val + n.val / 256) :
    outOf v10 v11 i sc off code lo hi w x (ix2 m n)
      = (((∑ k, blockTerm g sc off code L w x m n 0 k) + ∑ k, blockTerm g sc off code L w x m n 1 k)
          + ∑ k, blockTerm g sc off code L w x m n 2 k) + ∑ k, blockTerm g sc off code L w x m n 3 k := by
  have hp : ∀ kc : Fin 4, part (x kc) (chunk lo hi (fun b c => v10.readCov (amaxPieces i sc off code) (Rect.unit (s := S128x512) ![b.val, 128 * c.val] S1x128.size (amaxRow_inb b c)).toLoadRect) w kc) (ix2 m n)
      = ∑ k, blockTerm g sc off code L w x m n kc k := by
    intro kc
    rw [part_apply]
    refine Finset.sum_congr rfl fun k _ => ?_
    unfold blockTerm
    refine congrArg (fun z : EReal => (x kc (ix3 (n0 := 64) (n1 := 2) (n2 := 2048) ⟨m.val / 2, by omega⟩ ⟨m.val % 2, by omega⟩ k) : EReal) * z) ?_
    rw [chunk_apply, decode_apply]
    refine (table_apply lo hi _ _ _ _ (fun h => hlo _ _ h) (fun h => hhi _ _ h)).trans ?_
    rw [amaxRow_apply, amaxTile_apply i sc off code _ _ _ (⟨g.val, by omega⟩ : Fin 128) (by show g.val = 2 * (i 0).val + n.val / 128 / 2; omega)]
  have h := acc_apply v11 (fun q => part (x ⟨q % 4, Nat.mod_lt _ (by decide)⟩)
    (chunk lo hi (fun b c => v10.readCov (amaxPieces i sc off code) (Rect.unit (s := S128x512) ![b.val, 128 * c.val] S1x128.size (amaxRow_inb b c)).toLoadRect)
      w ⟨q % 4, Nat.mod_lt _ (by decide)⟩)) (ix2 m n)
  refine h.trans ?_
  rw [← hp 0, ← hp 1, ← hp 2, ← hp 3]
  rfl

end Cert.KernelIdeal.Val

end
-- ==== Proof.Spec.lean ====
/-
  What both programs compute: an activation row times the decoded weight, as one sum over the 8192 columns, and the two
  orders of summation the programs use.
-/
module

public import proofs.«01_k».proof.Proof.Out

@[expose] public section

noncomputable section
open Idealize.ShloMosaic hiding ix2 ix3
open Idealize.ShloMosaic.TcCoe Idealize.SL.Sem
open Idealize.ShloMosaic.ValueIdx (ix2 ix3)

namespace Cert.Spec
open Cert.KernelIdeal Cert.KernelIdeal.Val

/-- The sixteen levels. -/
def level (k : Fin 16) : EReal := FloatOps.ofBits (F := Ideal) .f32 (lit0 k)

section
variable (X : Vec Ideal S128x1x8192 .bf16) (W : Vec Ideal S4096x7168 .i8) (C : Vec Ideal S128x7168 .i8) (S : Vec Ideal S128x28 .f32) (O : Vec Ideal S_ .f32)

/-- The absmax of block `b` and column `n`: the code times its group's scale, plus the offset. -/
def absmax (b : Fin 128) (n : Fin 7168) : EReal :=
  (FloatOps.sitofp (F := Ideal) .f32 (C (ix2 (n0 := 128) (n1 := 7168) b n)) : EReal) * S (ix2 (n0 := 128) (n1 := 28) b ⟨n.val / 256, by omega⟩) + O (fun a => a.elim0)

/-- The decoded weight: the level of the code in half `κ % 2` of byte `κ / 2`, times the absmax of block `κ / 64`. -/
def weight (κ : Fin 8192) (n : Fin 7168) : EReal :=
  level ⟨nib (W (ix2 (n0 := 4096) (n1 := 7168) ⟨κ.val / 2, by omega⟩ n)) (κ.val % 2), nib_lt _ _⟩ * absmax C S O ⟨κ.val / 64, by omega⟩ n

/-- One product of the sum. -/
def term (m : Fin 128) (n : Fin 7168) (κ : Fin 8192) : EReal :=
  (X (ix3 (n0 := 128) (n1 := 1) (n2 := 8192) m 0 κ) : EReal) * weight W C S O κ n

/-- The result at row `m`, column `n`. -/
def linear (m : Fin 128) (n : Fin 7168) : EReal := ∑ κ, term X W C S O m n κ

end

theorem pair_lt (a : Fin 4096) (b : Fin 2) : 2 * a.val + b.val < 8192 := by omega

/-- A column as a byte row and a half. -/
def pairs : Fin 8192 ≃ Fin 4096 × Fin 2 where
  toFun κ := (⟨κ.val / 2, by omega⟩, ⟨κ.val % 2, by omega⟩)
  invFun p := ⟨2 * p.1.val + p.2.val, pair_lt p.1 p.2⟩
  left_inv κ := Fin.ext (by show 2 * (κ.val / 2) + κ.val % 2 = κ.val; omega)
  right_inv p := Prod.ext (Fin.ext (by show (2 * p.1.val + p.2.val) / 2 = p.1.val; omega)) (Fin.ext (by show (2 * p.1.val + p.2.val) % 2 = p.2.val; omega))

/-- The even columns and the odd columns make all of them. -/
theorem even_odd (f : Fin 8192 → EReal) :
    (∑ k : Fin 4096, f ⟨2 * k.val, by omega⟩) + ∑ k : Fin 4096, f ⟨2 * k.val + 1, by omega⟩ = ∑ κ, f κ := by
  have h : ∑ κ, f κ = ∑ p : Fin 4096 × Fin 2, f ⟨2 * p.1.val + p.2.val, pair_lt p.1 p.2⟩ :=
    Fintype.sum_equiv pairs _ _ fun κ => congrArg f (Fin.ext (by show κ.val = 2 * (κ.val / 2) + κ.val % 2; omega))
  rw [h, Fintype.sum_prod_type, ← Finset.sum_add_distrib]
  refine Finset.sum_congr rfl fun k _ => ?_
  rw [Fin.sum_univ_two]
  rfl

/-- The four chunks make all of the columns. -/
theorem four_chunks (f : Fin 8192 → EReal) :
    (((∑ k : Fin 2048, f ⟨2048 * 0 + k.val, by omega⟩) + ∑ k : Fin 2048, f ⟨2048 * 1 + k.val, by omega⟩)
      + ∑ k : Fin 2048, f ⟨2048 * 2 + k.val, by omega⟩) + ∑ k : Fin 2048, f ⟨2048 * 3 + k.val, by omega⟩ = ∑ κ, f κ := by
  have h : ∑ κ, f κ = ∑ p : Fin 4 × Fin 2048, f ⟨2048 * p.1.val + p.2.val, by omega⟩ :=
    Finset.sum_nbij' (fun κ : Fin 8192 => ((⟨κ.val / 2048, by omega⟩ : Fin 4), (⟨κ.val % 2048, by omega⟩ : Fin 2048)))
      (fun p => (⟨2048 * p.1.val + p.2.val, by omega⟩ : Fin 8192)) (fun _ _ => Finset.mem_univ _) (fun _ _ => Finset.mem_univ _)
      (fun κ _ => Fin.ext (by show 2048 * (κ.val / 2048) + κ.val % 2048 = κ.val; omega))
      (fun p _ => Prod.ext (Fin.ext (by show (2048 * p.1.val + p.2.val) / 2048 = p.1.val; omega)) (Fin.ext (by show (2048 * p.1.val + p.2.val) % 2048 = p.2.val; omega)))
      (fun κ _ => congrArg f (Fin.ext (by show κ.val = 2048 * (κ.val / 2048) + κ.val % 2048; omega)))
  rw [h, Fintype.sum_prod_type, Fin.sum_univ_four]
  rfl

/-- The column of the weight that the kernel decodes at place `κ`: within a block of 64, place `q` holds column
    `4 (q % 16) + q / 16`. -/
abbrev column (κ : Fin 8192) : Fin 8192 := ⟨64 * (κ.val / 64) + 4 * (κ.val % 16) + κ.val % 64 / 16, by omega⟩

theorem place (b u v : Nat) (hu : u < 4) (hv : v < 16) :
    64 * ((64 * b + 4 * v + u) / 64) + 16 * ((64 * b + 4 * v + u) % 4) + (64 * b + 4 * v + u) % 64 / 4 = 64 * b + 16 * u + v := by
  have h1 : (64 * b + 4 * v + u) / 64 = b := by omega
  have h2 : (64 * b + 4 * v + u) % 4 = u := by omega
  have h3 : (64 * b + 4 * v + u) % 64 = 4 * v + u := by omega
  rw [h1, h2, h3]; omega

theorem place' (b w u : Nat) (hw : w < 16) (hu : u < 4) :
    64 * ((64 * b + 16 * u + w) / 64) + 4 * ((64 * b + 16 * u + w) % 16) + (64 * b + 16 * u + w) % 64 / 16 = 64 * b + 4 * w + u := by
  have h1 : (64 * b + 16 * u + w) / 64 = b := by omega
  have h2 : (64 * b + 16 * u + w) % 16 = w := by omega
  have h3 : (64 * b + 16 * u + w) % 64 = 16 * u + w := by omega
  rw [h1, h2, h3]; omega

/-- The kernel's order of the columns is a permutation, so the sum does not change. -/
theorem sum_column (f : Fin 8192 → EReal) : ∑ κ, f (column κ) = ∑ κ, f κ :=
  Finset.sum_nbij' column (fun s : Fin 8192 => (⟨64 * (s.val / 64) + 16 * (s.val % 4) + s.val % 64 / 4, by omega⟩ : Fin 8192))
    (fun _ _ => Finset.mem_univ _) (fun _ _ => Finset.mem_univ _)
    (fun κ _ => Fin.ext (by
      have h := place (κ.val / 64) (κ.val % 64 / 16) (κ.val % 16) (by omega) (by omega)
      exact h.trans (by omega)))
    (fun s _ => Fin.ext (by
      have h := place' (s.val / 64) (s.val % 64 / 4) (s.val % 4) (by omega) (by omega)
      show 64 * ((64 * (s.val / 64) + 16 * (s.val % 4) + s.val % 64 / 4) / 64) + 4 * ((64 * (s.val / 64) + 16 * (s.val % 4) + s.val % 64 / 4) % 16)
        + (64 * (s.val / 64) + 16 * (s.val % 4) + s.val % 64 / 4) % 64 / 16 = s.val
      exact h.trans (by omega)))
    (fun _ _ => rfl)

end Cert.Spec

end
-- ==== Proof.Sum.lean ====
/-
  One block of the kernel's output is the sum over the columns, whatever its loads read, as long as they read the arguments.
-/
module

public import proofs.«01_k».proof.Proof.Spec

@[expose] public section

noncomputable section
open Idealize.ShloMosaic hiding ix2 ix3
open Idealize.ShloMosaic.TcCoe Idealize.SL.Sem
open Idealize.ShloMosaic.ValueIdx (ix2 ix3)

namespace Cert.KernelIdeal.Val
open Cert.KernelIdeal Cert.KernelIdeal.Gen
open Cert.Spec (level absmax weight term linear column)

theorem ix2_ext {n0 n1 : Nat} {a a' : Fin n0} {b b' : Fin n1} (ha : a.val = a'.val) (hb : b.val = b'.val) :
    ix2 (n0 := n0) (n1 := n1) a b = ix2 a' b' := by
  rw [Fin.ext ha, Fin.ext hb]

theorem ix3_ext {n0 n1 n2 : Nat} {a a' : Fin n0} {b b' : Fin n1} {d d' : Fin n2} (ha : a.val = a'.val) (hb : b.val = b'.val) (hd : d.val = d'.val) :
    ix3 (n0 := n0) (n1 := n1) (n2 := n2) a b d = ix3 a' b' d' := by
  rw [Fin.ext ha, Fin.ext hb, Fin.ext hd]

/-- The places of chunk `kc`, column `k`, split as block, quarter and place in the quarter. -/
theorem place_facts (kc k : Nat) (hk : k < 2048) :
    (64 * ((2048 * kc + k) / 64) + 4 * ((2048 * kc + k) % 16) + (2048 * kc + k) % 64 / 16) / 2 = 32 * (32 * kc + k / 64) + byteRow (k % 64)
      ∧ (64 * ((2048 * kc + k) / 64) + 4 * ((2048 * kc + k) % 16) + (2048 * kc + k) % 64 / 16) % 2 = byteHalf (k % 64)
      ∧ (64 * ((2048 * kc + k) / 64) + 4 * ((2048 * kc + k) % 16) + (2048 * kc + k) % 64 / 16) / 64 = 32 * kc + k / 64
      ∧ 64 * ((2048 * kc + k) / 64) + 4 * ((2048 * kc + k) % 16) + (2048 * kc + k) % 64 / 16 = 128 * ((2048 * kc + k) / 128) + srcLane ((2048 * kc + k) % 128) := by
  obtain ⟨b, u, v, hu, hv, rfl⟩ : ∃ b u v : Nat, u < 4 ∧ v < 16 ∧ k = 64 * b + 16 * u + v :=
    ⟨k / 64, k % 64 / 16, k % 16, by omega, by omega, by omega⟩
  have h1 : (2048 * kc + (64 * b + 16 * u + v)) / 64 = 32 * kc + b := by omega
  have h2 : (2048 * kc + (64 * b + 16 * u + v)) % 16 = v := by omega
  have h3 : (2048 * kc + (64 * b + 16 * u + v)) % 64 / 16 = u := by omega
  have h4 : (64 * b + 16 * u + v) / 64 = b := by omega
  have h5 : (64 * b + 16 * u + v) % 64 = 16 * u + v := by omega
  have hr : byteRow (16 * u + v) = 2 * v + u / 2 := by
    show 2 * ((16 * u + v) % 16) + (16 * u + v) / 32 = 2 * v + u / 2
    have g1 : (16 * u + v) % 16 = v := by omega
    have g2 : (16 * u + v) / 32 = u / 2 := by omega
    rw [g1, g2]
  have hh : byteHalf (16 * u + v) = u % 2 := by
    show (16 * u + v) / 16 % 2 = u % 2
    have g1 : (16 * u + v) / 16 = u := by omega
    rw [g1]
  have hl : srcLane ((2048 * kc + (64 * b + 16 * u + v)) % 128) = 64 * (b % 2) + 4 * v + u := by
    have g0 : (2048 * kc + (64 * b + 16 * u + v)) % 128 = 64 * (b % 2) + 16 * u + v := by omega
    rw [g0]
    show 64 * ((64 * (b % 2) + 16 * u + v) / 64) + 4 * ((64 * (b % 2) + 16 * u + v) % 16) + (64 * (b % 2) + 16 * u + v) % 64 / 16 = _
    have g1 : (64 * (b % 2) + 16 * u + v) / 64 = b % 2 := by omega
    have g2 : (64 * (b % 2) + 16 * u + v) % 16 = v := by omega
    have g3 : (64 * (b % 2) + 16 * u + v) % 64 / 16 = u := by omega
    rw [g1, g2, g3]
  have h6 : (2048 * kc + (64 * b + 16 * u + v)) / 128 = 16 * kc + b / 2 := by omega
  rw [h1, h2, h3, h4, h5, hr, hh, hl, h6]
  refine ⟨?_, ?_, ?_, ?_⟩ <;> omega

section
variable (X : Vec Ideal S128x1x8192 .bf16) (W : Vec Ideal S4096x7168 .i8) (C : Vec Ideal S128x7168 .i8) (S : Vec Ideal S128x28 .f32) (O : Vec Ideal S_ .f32)

/-- The body's output at grid point `t`, when its loads read the arguments: column `512 t + n` of the result. -/
theorem outOf_linear (v10 v11 : View sig .tc .vmem S128x512 .f32) (i : grid0.Coords) (t : Fin 14) (ht : (i 0).val = t.val)
    (sc : Vec Ideal S128x128 .f32) (off : Elt Ideal .f32) (code : Fin 4 → Vec Ideal S128x128 .i8) (lo hi : Vec Ideal S1x8x128 .f32)
    (w : Fin 128 → Fin 4 → Vec Ideal S32x128 .i8) (x : Fin 4 → Vec Ideal S64x2x2048 .bf16)
    (hsc : ∀ (b : Fin 128) (g : Fin 28), sc (ix2 (n0 := 128) (n1 := 128) b ⟨g.val, by omega⟩) = S (ix2 (n0 := 128) (n1 := 28) b g))
    (hoff : off = O (fun a => a.elim0))
    (hcode : ∀ (h : Fin 4) (b l : Fin 128), code h (ix2 (n0 := 128) (n1 := 128) b l) = C (ix2 (n0 := 128) (n1 := 7168) b ⟨512 * t.val + (128 * h.val + l.val), by omega⟩))
    (hlo : ∀ (k : Fin 16) (l : Fin 128) (h : k.val < 8), lo (ix3 (n0 := 1) (n1 := 8) (n2 := 128) 0 ⟨k.val, h⟩ l) = level k)
    (hhi : ∀ (k : Fin 16) (l : Fin 128) (_ : ¬k.val < 8), hi (ix3 (n0 := 1) (n1 := 8) (n2 := 128) 0 ⟨k.val - 8, by omega⟩ l) = level k)
    (hw : ∀ (b : Fin 128) (h : Fin 4) (r : Fin 32) (l : Fin 128), w b h (ix2 (n0 := 32) (n1 := 128) r l) = W (ix2 (n0 := 4096) (n1 := 7168) ⟨32 * b.val + r.val, by omega⟩ ⟨512 * t.val + (128 * h.val + l.val), by omega⟩))
    (hx : ∀ (kc : Fin 4) (a : Fin 64) (p : Fin 2) (k : Fin 2048), x kc (ix3 (n0 := 64) (n1 := 2) (n2 := 2048) a p k)
      = X (ix3 (n0 := 128) (n1 := 1) (n2 := 8192) ⟨2 * a.val + p.val, by omega⟩ 0 (column ⟨2048 * kc.val + k.val, by omega⟩)))
    (r : Fin 128) (n : Fin 512) :
    outOf v10 v11 i sc off code lo hi w x (ix2 r n) = linear X W C S O r ⟨512 * t.val + n.val, by omega⟩ := by
  have hb : ∀ (kc : Fin 4) (k : Fin 2048), blockTerm ⟨2 * t.val + n.val / 256, by omega⟩ sc off code level w x r n kc k
      = term X W C S O r ⟨512 * t.val + n.val, by omega⟩ (column ⟨2048 * kc.val + k.val, by omega⟩) := by
    intro kc k
    obtain ⟨f1, f2, f3, _⟩ := place_facts kc.val k.val k.isLt
    unfold blockTerm term weight absmax
    refine congrArg₂ (fun a b : EReal => a * b) ((hx _ _ _ _).trans (congrArg X (ix3_ext ?_ rfl rfl))) (congrArg₂ (fun a b : EReal => a * b) (congrArg level (Fin.ext ?_))
      (congrArg₂ (fun a b : EReal => a + b) (congrArg₂ (fun a b : EReal => a * b)
        (congrArg (fun j => (FloatOps.sitofp (F := Ideal) .f32 j : EReal)) ((hcode _ _ _).trans (congrArg C (ix2_ext ?_ ?_))))
        ((hsc ⟨32 * kc.val + k.val / 64, by omega⟩ ⟨2 * t.val + n.val / 256, by omega⟩).trans (congrArg S (ix2_ext ?_ ?_)))) hoff))
    · show 2 * (r.val / 2) + r.val % 2 = r.val; omega
    · show nib (w _ _ _) _ = nib (W _) _
      refine congrArg₂ nib ((hw _ _ _ _).trans (congrArg W (ix2_ext ?_ ?_))) f2.symm
      · exact f1.symm
      · show 512 * t.val + (128 * (n.val / 128) + n.val % 128) = 512 * t.val + n.val; omega
    · exact f3.symm
    · show 512 * t.val + (128 * (n.val / 128) + n.val % 128) = 512 * t.val + n.val; omega
    · exact f3.symm
    · show 2 * t.val + n.val / 256 = (512 * t.val + n.val) / 256; omega
  rw [outOf_apply v10 v11 i sc off code lo hi w x level hlo hhi r n ⟨2 * t.val + n.val / 256, by omega⟩ (by show 2 * t.val + n.val / 256 = _; rw [ht])]
  unfold linear
  rw [← Cert.Spec.sum_column, ← Cert.Spec.four_chunks]
  simp only [hb]
  rfl

end

end Cert.KernelIdeal.Val

end
-- ==== Proof.Input.lean ====
/-
  What the kernel's input windows read at a grid point, in terms of the arguments.
-/
module

public import proofs.«01_k».proof.Proof.Spec

@[expose] public section

noncomputable section
open Idealize.ShloMosaic hiding ix2 ix3
open Idealize.ShloMosaic.TcCoe Idealize.SL.Sem Idealize.ShloMosaic.StableHlo
open Idealize.ShloMosaic.ValueIdx (ix2 ix3)

namespace Cert.KernelIdeal.Val
open Cert.KernelIdeal Cert.KernelIdeal.Gen
variable (m : (ℓ : Loc nD τ sig) → Buf (Elt Ideal) ℓ) (c : Dev nD)

/-- The level table, as the kernel's windows find it. -/
theorem V_main_v0 : (V m c main_v0 : Vec Ideal S2x8x128 .f32) = broadcastInDim S2x8x128 ![0, 1] bcast_S2x8_S2x8x128_0_1 (fun i => FloatOps.ofBits (F := Ideal) .f32 (lit0 (S2x8.rowMajor i))) := by
  show StableHlo.after hostOps0 (fun b => m (c, b)) (Proc.devRef .tc main_v0) = _
  after_results
  rfl

/-- The offset as a one-by-one array. -/
theorem V_main_v1 : (V m c main_v1 : Vec Ideal S1x1 .f32) = shapeCast S1x1 (m ((c : Thread nD τ).loc main_arg4)) shapeCasts_S_S1x1 := by
  show StableHlo.after hostOps0 (fun b => m (c, b)) (Proc.devRef .tc main_v1) = _
  after_results
  rfl

/-- The activation without its unit axis. -/
theorem V_main_v2 : (V m c main_v2 : Vec Ideal S128x8192 .bf16) = shapeCast S128x8192 (m ((c : Thread nD τ).loc main_arg0)) shapeCasts_S128x1x8192_S128x8192 := by
  show StableHlo.after hostOps0 (fun b => m (c, b)) (Proc.devRef .tc main_v2) = _
  after_results
  rfl

/-- Where each window's block sits at each grid point. -/
theorem idx_facts : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = t.val) ∧ (win0_3.index t (0 : Fin 2) = 0 ∧ win0_3.index t (1 : Fin 2) = t.val)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (grid0.coords t 0).val = t.val :=
  (by decide +kernel : ∀ t : Fin grid0.N, _)

theorem t_lt (t : Fin cfg0.N) : t.val < 14 := lt_of_lt_of_eq t.isLt (show cfg0.N = 14 from N_0)

theorem iblk0_apply (t : Fin cfg0.N) (z : S1x1.Idx) : iblk m c 0 t z = m ((c : Thread nD τ).loc main_arg4) (fun a => a.elim0) := by
  show (V m c main_v1 : Vec Ideal S1x1 .f32) (((cfg0.win 0).blk t).view.emb z) = _
  rw [V_main_v1]
  exact shapeCast_apply _ _ _ (fun a => a.elim0) (by
    have h : ∀ j : S1x1.Idx, (S1x1.rowMajor j).val = 0 := fun j => by
      have h0 : (j 0).val < 1 := (j 0).isLt
      have h1 : (j 1).val < 1 := (j 1).isLt
      rw [Shape.rowMajor_val_two]; show (j 0).val * 1 + (j 1).val = 0; omega
    rw [h]
    rfl)

theorem iblk1_apply (t : Fin cfg0.N) (r : Fin 128) (k : Fin 8192) :
    iblk m c 1 t (ix2 (n0 := 128) (n1 := 8192) r k) = m ((c : Thread nD τ).loc main_arg0) (ix3 (n0 := 128) (n1 := 1) (n2 := 8192) r 0 k) := by
  show (V m c main_v2 : Vec Ideal S128x8192 .bf16) (((cfg0.win 1).blk t).view.emb (ix2 (n0 := 128) (n1 := 8192) r k)) = _
  obtain ⟨_, ⟨e0, e1⟩, _⟩ := idx_facts t
  have h : (((cfg0.win 1).blk t).view.emb (ix2 (n0 := 128) (n1 := 8192) r k) : S128x8192.Idx) = ix2 (n0 := 128) (n1 := 8192) r k := by
    funext a; apply Fin.ext
    match a with
    | ⟨0, _⟩ => show win0_1.index t (0 : Fin 2) * 128 + 1 * r.val = r.val; omega
    | ⟨1, _⟩ => show win0_1.index t (1 : Fin 2) * 8192 + 1 * k.val = k.val; omega
  rw [h, V_main_v2]
  exact shapeCast_apply _ _ _ (ix3 (n0 := 128) (n1 := 1) (n2 := 8192) r 0 k) (by
    rw [Shape.rowMajor_val_three, Shape.rowMajor_val_two]; show (r.val * 1 + 0) * 8192 + k.val = r.val * 8192 + k.val; omega)

theorem iblk2_apply (t : Fin cfg0.N) (r : Fin 4096) (n : Fin 512) :
    iblk m c 2 t (ix2 (n0 := 4096) (n1 := 512) r n) = m ((c : Thread nD τ).loc main_arg1) (ix2 (n0 := 4096) (n1 := 7168) r ⟨512 * t.val + n.val, by have := t_lt t; omega⟩) := by
  show (V m c main_arg1 : Vec Ideal S4096x7168 .i8) (((cfg0.win 2).blk t).view.emb (ix2 (n0 := 4096) (n1 := 512) r n)) = _
  obtain ⟨_, _, ⟨e0, e1⟩, _⟩ := idx_facts t
  have h : (((cfg0.win 2).blk t).view.emb (ix2 (n0 := 4096) (n1 := 512) r n) : S4096x7168.Idx) = ix2 (n0 := 4096) (n1 := 7168) r ⟨512 * t.val + n.val, by have := t_lt t; omega⟩ := by
    funext a; apply Fin.ext
    match a with
    | ⟨0, _⟩ => show win0_2.index t (0 : Fin 2) * 4096 + 1 * r.val = r.val; omega
    | ⟨1, _⟩ => show win0_2.index t (1 : Fin 2) * 512 + 1 * n.val = 512 * t.val + n.val; omega
  rw [h, V_main_arg1]

theorem iblk3_apply (t : Fin cfg0.N) (r : Fin 128) (n : Fin 512) :
    iblk m c 3 t (ix2 (n0 := 128) (n1 := 512) r n) = m ((c : Thread nD τ).loc main_arg2) (ix2 (n0 := 128) (n1 := 7168) r ⟨512 * t.val + n.val, by have := t_lt t; omega⟩) := by
  show (V m c main_arg2 : Vec Ideal S128x7168 .i8) (((cfg0.win 3).blk t).view.emb (ix2 (n0 := 128) (n1 := 512) r n)) = _
  obtain ⟨_, _, _, ⟨e0, e1⟩, _⟩ := idx_facts t
  have h : (((cfg0.win 3).blk t).view.emb (ix2 (n0 := 128) (n1 := 512) r n) : S128x7168.Idx) = ix2 (n0 := 128) (n1 := 7168) r ⟨512 * t.val + n.val, by have := t_lt t; omega⟩ := by
    funext a; apply Fin.ext
    match a with
    | ⟨0, _⟩ => show win0_3.index t (0 : Fin 2) * 128 + 1 * r.val = r.val; omega
    | ⟨1, _⟩ => show win0_3.index t (1 : Fin 2) * 512 + 1 * n.val = 512 * t.val + n.val; omega
  rw [h, V_main_arg2]

theorem iblk4_apply (t : Fin cfg0.N) (r : Fin 128) (g : Fin 28) :
    iblk m c 4 t (ix2 (n0 := 128) (n1 := 28) r g) = m ((c : Thread nD τ).loc main_arg3) (ix2 (n0 := 128) (n1 := 28) r g) := by
  show (V m c main_arg3 : Vec Ideal S128x28 .f32) (((cfg0.win 4).blk t).view.emb (ix2 (n0 := 128) (n1 := 28) r g)) = _
  obtain ⟨_, _, _, _, ⟨e0, e1⟩, _⟩ := idx_facts t
  have h : (((cfg0.win 4).blk t).view.emb (ix2 (n0 := 128) (n1 := 28) r g) : S128x28.Idx) = ix2 (n0 := 128) (n1 := 28) r g := by
    funext a; apply Fin.ext
    match a with
    | ⟨0, _⟩ => show win0_4.index t (0 : Fin 2) * 128 + 1 * r.val = r.val; omega
    | ⟨1, _⟩ => show win0_4.index t (1 : Fin 2) * 28 + 1 * g.val = g.val; omega
  rw [h, V_main_arg3]

/-- The level table at half `h`, row `k`: level `8 h + k`, on every lane. -/
theorem iblk5_apply (t : Fin cfg0.N) (h : Fin 2) (k : Fin 8) (l : Fin 128) :
    iblk m c 5 t (ix3 (n0 := 2) (n1 := 8) (n2 := 128) h k l) = Cert.Spec.level ⟨8 * h.val + k.val, by omega⟩ := by
  show (V m c main_v0 : Vec Ideal S2x8x128 .f32) (((cfg0.win 5).blk t).view.emb (ix3 (n0 := 2) (n1 := 8) (n2 := 128) h k l)) = _
  obtain ⟨_, _, _, _, _, ⟨e0, e1, e2⟩, _⟩ := idx_facts t
  have he : (((cfg0.win 5).blk t).view.emb (ix3 (n0 := 2) (n1 := 8) (n2 := 128) h k l) : S2x8x128.Idx) = ix3 (n0 := 2) (n1 := 8) (n2 := 128) h k l := by
    funext a; apply Fin.ext
    match a with
    | ⟨0, _⟩ => show win0_5.index t (0 : Fin 3) * 2 + 1 * h.val = h.val; omega
    | ⟨1, _⟩ => show win0_5.index t (1 : Fin 3) * 8 + 1 * k.val = k.val; omega
    | ⟨2, _⟩ => show win0_5.index t (2 : Fin 3) * 128 + 1 * l.val = l.val; omega
  rw [he, V_main_v0]
  refine (broadcastInDim_apply _ bcast_S2x8_S2x8x128_0_1 _ _ (ix2 (n0 := 2) (n1 := 8) h k) (fun a => match a with
    | ⟨0, _⟩ => by show h.val = if (2 : Nat) = 1 then 0 else h.val; rw [if_neg (by decide)]
    | ⟨1, _⟩ => by show k.val = if (8 : Nat) = 1 then 0 else k.val; rw [if_neg (by decide)])).trans ?_
  have hr : S2x8.rowMajor (ix2 (n0 := 2) (n1 := 8) h k) = (⟨8 * h.val + k.val, by omega⟩ : Fin 16) :=
    Fin.ext (by rw [Shape.rowMajor_val_two]; show h.val * 8 + k.val = 8 * h.val + k.val; omega)
  show FloatOps.ofBits (F := Ideal) .f32 (lit0 (S2x8.rowMajor (ix2 (n0 := 2) (n1 := 8) h k))) = _
  rw [hr]; rfl

end Cert.KernelIdeal.Val

end
-- ==== Proof.Point.lean ====
/-
  What the kernel leaves at each grid point: the carried scratch holds the permuted activation and the scales, and the output
  block is the sum over the columns.
-/
module

public import proofs.«01_k».proof.Proof.Sum
public import proofs.«01_k».proof.Proof.Input

@[expose] public section

noncomputable section
open Idealize.ShloMosaic hiding ix2 ix3
open Idealize.ShloMosaic.TcCoe Idealize.SL.Sem
open Idealize.ShloMosaic.ValueIdx (ix2 ix3)

namespace Cert.KernelIdeal.Val
open Cert.KernelIdeal Cert.KernelIdeal.Gen
open Cert.Spec (level absmax weight term linear column)

/-- A load from a whole buffer reads its contents at the rectangle's index. -/
theorem load_apply {sp : Space} {s : Shape} {e : EltTy} (M : Memref sig .tc sp s e) (h : M.IsWhole) (x : Vec Ideal s e) (r : Rect s) (j : r.shape.Idx) :
    View.readAt (Elt Ideal) M.view r.toLoadRect (h.unread x) j = x (r.idx j) :=
  congrFun (h.read_unread x) (r.idx j)

variable (m : (ℓ : Loc nD τ sig) → Buf (Elt Ideal) ℓ) (c : Dev nD)

/-- The carried scratch as the kernel keeps it: the activation with its columns permuted, and the scales in the first columns. -/
def Held (xs0 : Vec Ideal S64x2x8192 .bf16) (xs1 : Vec Ideal S128x128 .f32) : Prop :=
  (∀ (a : Fin 64) (p : Fin 2) (k : Fin 8192), xs0 (ix3 (n0 := 64) (n1 := 2) (n2 := 8192) a p k)
    = m ((c : Thread nD τ).loc main_arg0) (ix3 (n0 := 128) (n1 := 1) (n2 := 8192) ⟨2 * a.val + p.val, by omega⟩ 0 (column k)))
  ∧ ∀ (b : Fin 128) (g : Fin 28), xs1 (ix2 (n0 := 128) (n1 := 128) b ⟨g.val, by omega⟩) = m ((c : Thread nD τ).loc main_arg3) (ix2 (n0 := 128) (n1 := 28) b g)

/-- The first point leaves the scratch so. -/
theorem held_stored (t : Fin cfg0.N) (M : Memref sig .tc .vmem S128x8192 .bf16) (hM : M.IsWhole) (M' : Memref sig .tc .vmem S128x28 .f32) (hM' : M'.IsWhole) :
    Held m c (View.canon (xpPieces (xTiles M hM (iblk m c 1 t)))) (View.canon (scPieces (scTile M' hM' (iblk m c 4 t)))) := by
  constructor
  · intro a p k
    rw [xp_apply]
    refine (load_apply M hM (iblk m c 1 t) _ _).trans ?_
    have hp := (place_facts (k.val / 2048) (k.val % 2048) (Nat.mod_lt _ (by decide))).2.2.2
    have hk : 2048 * (k.val / 2048) + k.val % 2048 = k.val := Nat.div_add_mod _ _
    rw [hk] at hp
    refine Eq.trans (congrArg (iblk m c 1 t) ?_) (iblk1_apply m c t _ _)
    funext b; apply Fin.ext
    match b with
    | ⟨0, _⟩ => show 0 + 1 * (2 * a.val + p.val) = 2 * a.val + p.val; omega
    | ⟨1, _⟩ =>
      show 128 * (k.val / 128) + 1 * srcLane (k.val % 128) = 64 * (k.val / 64) + 4 * (k.val % 16) + k.val % 64 / 16
      omega
  · intro b g
    rw [sc_apply]
    refine (load_apply M' hM' (iblk m c 4 t) _ _).trans ?_
    refine Eq.trans (congrArg (iblk m c 4 t) ?_) (iblk4_apply m c t b g)
    funext d; apply Fin.ext
    match d with
    | ⟨0, _⟩ => show 0 + 1 * b.val = b.val; omega
    | ⟨1, _⟩ => show 0 + 1 * g.val = g.val; omega

/-- After every point the scratch is so. -/
theorem held : ∀ (n : ℕ) (hn : n < cfg0.N), Held m c (outsAt0 m c n hn).2.1 (outsAt0 m c n hn).2.2
  | 0, hn => by
    rw [outsAt0_A m c ⟨0, hn⟩ (Nat.zero_mod _)]
    dsimp only
    rw [xp_A_open, sc_A_open]
    exact held_stored m c _ _ _ _ _
  | n + 1, hn => by
    have hN : n + 1 < 14 := lt_of_lt_of_eq hn (show cfg0.N = 14 from N_0)
    rw [outsAt0_B m c ⟨n + 1, hn⟩ (by show ¬(n + 1) % 14 = 0; omega)]
    exact held n (Nat.lt_of_succ_lt hn)

/-- The output block of point `t`, over any scratch that is so. -/
theorem out_linear (t : Fin cfg0.N) (v10 v11 : View sig .tc .vmem S128x512 .f32) (xs0 : Vec Ideal S64x2x8192 .bf16) (xs1 : Vec Ideal S128x128 .f32) (hs : Held m c xs0 xs1)
    (M1 : Memref sig .tc .smem S1x1 .f32) (h1 : M1.IsWhole) (M3 : Memref sig .tc .vmem S4096x512 .i8) (h3 : M3.IsWhole)
    (M4 : Memref sig .tc .vmem S128x512 .i8) (h4 : M4.IsWhole) (M6 : Memref sig .tc .vmem S2x8x128 .f32) (h6 : M6.IsWhole)
    (sc : Vec Ideal S128x128 .f32) (hsc : ∀ j, sc j = xs1 j)
    (x : Fin 4 → Vec Ideal S64x2x2048 .bf16)
    (hx : ∀ (kc : Fin 4) (j : S64x2x2048.Idx), x kc j = xs0 ((Rect.unit (s := S64x2x8192) ![0, 0, 2048 * kc.val] S64x2x2048.size (x_inb kc)).idx j))
    (r : Fin 128) (n : Fin 512) :
    outOf v10 v11 (grid0.coords t) sc
        (View.readAt (Elt Ideal) M1.view (Rect.unit ![0, 0] S1x1.size inb_S1x1_S1x1_0_0).toLoadRect (h1.unread (iblk m c 0 t)) (Shape.Idx.first (by decide)))
        (fun h => View.readAt (Elt Ideal) M4.view (Rect.unit (s := S128x512) ![0, 128 * h.val] S128x128.size (code_inb h)).toLoadRect (h4.unread (iblk m c 3 t)))
        (View.readAt (Elt Ideal) M6.view (Rect.unit (s := S2x8x128) ![0, 0, 0] S1x8x128.size inb_S2x8x128_S1x8x128_0_0_0).toLoadRect (h6.unread (iblk m c 5 t)))
        (View.readAt (Elt Ideal) M6.view (Rect.unit (s := S2x8x128) ![1, 0, 0] S1x8x128.size inb_S2x8x128_S1x8x128_1_0_0).toLoadRect (h6.unread (iblk m c 5 t)))
        (fun b d => View.readAt (Elt Ideal) M3.view (Rect.unit (s := S4096x512) ![32 * b.val, 128 * d.val] S32x128.size (w_inb b d)).toLoadRect (h3.unread (iblk m c 2 t)))
        x (ix2 r n)
      = linear (m ((c : Thread nD τ).loc main_arg0)) (m ((c : Thread nD τ).loc main_arg1)) (m ((c : Thread nD τ).loc main_arg2)) (m ((c : Thread nD τ).loc main_arg3)) (m ((c : Thread nD τ).loc main_arg4))
          r ⟨512 * t.val + n.val, by have := t_lt t; omega⟩ := by
  refine outOf_linear (m ((c : Thread nD τ).loc main_arg0)) (m ((c : Thread nD τ).loc main_arg1)) (m ((c : Thread nD τ).loc main_arg2)) (m ((c : Thread nD τ).loc main_arg3)) (m ((c : Thread nD τ).loc main_arg4))
    v10 v11 (grid0.coords t) ⟨t.val, t_lt t⟩ ((idx_facts t).2.2.2.2.2.2) sc _ _ _ _ _ x ?_ ?_ ?_ ?_ ?_ ?_ ?_ r n
  · intro b g
    rw [hsc]; exact hs.2 b g
  · exact (load_apply M1 h1 (iblk m c 0 t) _ _).trans (iblk0_apply m c t _)
  · intro h b l
    refine (load_apply M4 h4 (iblk m c 3 t) _ _).trans ?_
    refine Eq.trans (congrArg (iblk m c 3 t) ?_) (iblk3_apply m c t b ⟨128 * h.val + l.val, by omega⟩)
    funext a; apply Fin.ext
    match a with
    | ⟨0, _⟩ => show 0 + 1 * b.val = b.val; omega
    | ⟨1, _⟩ => show 128 * h.val + 1 * l.val = 128 * h.val + l.val; omega
  · intro k l h
    refine (load_apply M6 h6 (iblk m c 5 t) _ _).trans ?_
    refine Eq.trans (congrArg (iblk m c 5 t) ?_) ((iblk5_apply m c t 0 ⟨k.val, h⟩ l).trans (congrArg level (Fin.ext (by show 8 * 0 + k.val = k.val; omega))))
    funext a; apply Fin.ext
    match a with
    | ⟨0, _⟩ => show 0 + 1 * 0 = 0; omega
    | ⟨1, _⟩ => show 0 + 1 * k.val = k.val; omega
    | ⟨2, _⟩ => show 0 + 1 * l.val = l.val; omega
  · intro k l h
    refine (load_apply M6 h6 (iblk m c 5 t) _ _).trans ?_
    refine Eq.trans (congrArg (iblk m c 5 t) ?_) ((iblk5_apply m c t 1 ⟨k.val - 8, by omega⟩ l).trans (congrArg level (Fin.ext (by show 8 * 1 + (k.val - 8) = k.val; omega))))
    funext a; apply Fin.ext
    match a with
    | ⟨0, _⟩ => show 1 + 1 * 0 = 1; omega
    | ⟨1, _⟩ => show 0 + 1 * (k.val - 8) = k.val - 8; omega
    | ⟨2, _⟩ => show 0 + 1 * l.val = l.val; omega
  · intro b h q l
    refine (load_apply M3 h3 (iblk m c 2 t) _ _).trans ?_
    refine Eq.trans (congrArg (iblk m c 2 t) ?_) (iblk2_apply m c t ⟨32 * b.val + q.val, by omega⟩ ⟨128 * h.val + l.val, by omega⟩)
    funext a; apply Fin.ext
    match a with
    | ⟨0, _⟩ => show 32 * b.val + 1 * q.val = 32 * b.val + q.val; omega
    | ⟨1, _⟩ => show 128 * h.val + 1 * l.val = 128 * h.val + l.val; omega
  · intro kc a p k
    rw [hx]
    refine Eq.trans (congrArg xs0 ?_) (hs.1 a p ⟨2048 * kc.val + k.val, by omega⟩)
    funext b; apply Fin.ext
    match b with
    | ⟨0, _⟩ => show 0 + 1 * a.val = a.val; omega
    | ⟨1, _⟩ => show 0 + 1 * p.val = p.val; omega
    | ⟨2, _⟩ => show 2048 * kc.val + 1 * k.val = 2048 * kc.val + k.val; omega

/-- A rectangle that is the whole scale scratch reads every index at itself. -/
theorem whole_idx (j : S128x128.Idx) : (Rect.unit (s := S128x128) ![0, 0] S128x128.size inb_S128x128_S128x128_0_0).idx j = j := by
  funext a; apply Fin.ext
  match a with
  | ⟨0, _⟩ => show 0 + 1 * (j 0).val = (j 0).val; omega
  | ⟨1, _⟩ => show 0 + 1 * (j 1).val = (j 1).val; omega

/-- The output block after point `t`. -/
theorem point_linear (t : Fin cfg0.N) (r : Fin 128) (n : Fin 512) :
    (outsAt0 m c t.val t.isLt).1 (ix2 (n0 := 128) (n1 := 512) r n)
      = linear (m ((c : Thread nD τ).loc main_arg0)) (m ((c : Thread nD τ).loc main_arg1)) (m ((c : Thread nD τ).loc main_arg2)) (m ((c : Thread nD τ).loc main_arg3)) (m ((c : Thread nD τ).loc main_arg4))
          r ⟨512 * t.val + n.val, by have := t_lt t; omega⟩ := by
  by_cases h0 : t.val % 14 = 0
  · rw [outsAt0_A m c t h0]
    dsimp only
    rw [out_A_open]
    refine out_linear m c t _ _ _ _ (held_stored m c t (ms0_1 t) (hs0_1 t) (ms0_4 t) (hs0_4 t)) _ _ _ _ _ _ _ _ _ ?_ _ ?_ r n
    · intro j
      rw [View.readCov_eq_canon']
      exact congrArg (View.canon _) (whole_idx j)
    · intro kc j
      rw [View.readCov_eq_canon']
  · rw [outsAt0_B m c t h0]
    dsimp only
    rw [out_B_open]
    refine out_linear m c t _ _ _ _ (held m c (t.val - 1) (Nat.lt_of_le_of_lt (Nat.sub_le _ _) t.isLt)) _ _ _ _ _ _ _ _ _ ?_ _ ?_ r n
    · intro j
      exact (load_apply _ _ _ _ _).trans (congrArg _ (whole_idx j))
    · intro kc j
      exact load_apply _ _ _ _ _

/-- The kernel's result at an index. -/
theorem G6_apply (r : Fin 128) (n : Fin 7168) :
    Cert.KernelIdeal.Value.G6 m c (ix2 (n0 := 128) (n1 := 7168) r n)
      = linear (m ((c : Thread nD τ).loc main_arg0)) (m ((c : Thread nD τ).loc main_arg1)) (m ((c : Thread nD τ).loc main_arg2)) (m ((c : Thread nD τ).loc main_arg3)) (m ((c : Thread nD τ).loc main_arg4)) r n := by
  have hp : Cert.KernelIdeal.Value.pt6Of (ix2 (n0 := 128) (n1 := 7168) r n) = n.val / 512 := by
    show 14 * (r.val / 128 - 0) + 1 * (n.val / 512 - 0) = n.val / 512; omega
  have hN : cfg0.N = 14 := N_0
  have ht : n.val / 512 < cfg0.N := by rw [hN]; omega
  have hl : Cert.KernelIdeal.Value.loc6Of (ix2 (n0 := 128) (n1 := 7168) r n) = ix2 (n0 := 128) (n1 := 512) r ⟨n.val % 512, Nat.mod_lt _ (by decide)⟩ := by
    funext a; apply Fin.ext
    match a with
    | ⟨0, _⟩ => show r.val % 128 = r.val; omega
    | ⟨1, _⟩ => rfl
  unfold Cert.KernelIdeal.Value.G6
  rw [dif_pos (by rw [hp]; exact ht), hl, Cert.KernelIdeal.Value.fold0_congr m c _ _ (n.val / 512) (by omega) hp, ← Cert.KernelIdeal.Value.outsAt0_sweep m c (n.val / 512) ht]
  refine (point_linear m c ⟨n.val / 512, ht⟩ r ⟨n.val % 512, Nat.mod_lt _ (by decide)⟩).trans ?_
  exact congrArg (linear _ _ _ _ _ r) (Fin.ext (by show 512 * (n.val / 512) + n.val % 512 = n.val; omega))

end Cert.KernelIdeal.Val

end
-- ==== Proof.Reference.lean ====
/-
  The reference's result, read at an index: the sum over the even columns plus the sum over the odd columns.
-/
module

public import proofs.«01_k».proof.Proof.Spec
public import proofs.«01_k».proof.Proof.Gen.ReferenceIdeal.Read

@[expose] public section

noncomputable section
open Idealize.ShloMosaic hiding ix2 ix3
open Idealize.ShloMosaic.TcCoe Idealize.SL.Sem
open Idealize.ShloMosaic.ValueIdx (ix2 ix3)

namespace Cert.ReferenceIdeal.Val
open Cert.ReferenceIdeal Cert.ReferenceIdeal.Gen Cert.ReferenceIdeal.Read
open Cert.KernelIdeal.Val (nib nib_lt)
open Cert.Spec (level absmax weight term linear)

/-- Bit `s` of a code, as the reference tests it. -/
def bit (v s : BitVec 32) : BitVec 1 := IntOp.cmpi .eq (IntOp.andi (IntOp.shrsi .host v s) 1#32) 1#32

/-- One of two values by one bit of a code. -/
def by_bit (v s : BitVec 32) (x y : EReal) : EReal := Scalar.select (bit v s) x y

/-- The reference's choice of a level by the four bits of a code, the highest first. -/
def pick (v : BitVec 32) : EReal :=
  by_bit v 3#32
    (by_bit v 2#32
      (by_bit v 1#32 (by_bit v 0#32 (level 15) (level 14)) (by_bit v 0#32 (level 13) (level 12)))
      (by_bit v 1#32 (by_bit v 0#32 (level 11) (level 10)) (by_bit v 0#32 (level 9) (level 8))))
    (by_bit v 2#32
      (by_bit v 1#32 (by_bit v 0#32 (level 7) (level 6)) (by_bit v 0#32 (level 5) (level 4)))
      (by_bit v 1#32 (by_bit v 0#32 (level 3) (level 2)) (by_bit v 0#32 (level 1) (level 0))))

theorem by_bit_set {v s : BitVec 32} (x y : EReal) (h : bit v s = 1#1) : by_bit v s x y = x := by
  unfold by_bit; rw [h]; rfl

theorem by_bit_clear {v s : BitVec 32} (x y : EReal) (h : bit v s = 0#1) : by_bit v s x y = y := by
  unfold by_bit; rw [h]; rfl

/-- The choice is the level the code numbers. -/
theorem pick_eq (k : Fin 16) : pick (BitVec.ofNat 32 k.val) = level k := by
  have hb : ∀ k : Fin 16, bit (BitVec.ofNat 32 k.val) 3#32 = BitVec.ofNat 1 (k.val / 8) ∧ bit (BitVec.ofNat 32 k.val) 2#32 = BitVec.ofNat 1 (k.val / 4)
      ∧ bit (BitVec.ofNat 32 k.val) 1#32 = BitVec.ofNat 1 (k.val / 2) ∧ bit (BitVec.ofNat 32 k.val) 0#32 = BitVec.ofNat 1 k.val := by decide +kernel
  obtain ⟨h3, h2, h1, h0⟩ := hb k
  unfold pick by_bit
  rw [h3, h2, h1, h0]
  fin_cases k <;> rfl

/-- The low four bits of a byte. -/
theorem low_bits (b : BitVec 8) : IntOp.andi (b.setWidth 32) 15#32 = BitVec.ofNat 32 (nib b 0) := by
  have h : ∀ k : Fin 256, IntOp.andi ((BitVec.ofFin k : BitVec 8).setWidth 32) 15#32 = BitVec.ofNat 32 (nib (BitVec.ofFin k) 0) := by decide +kernel
  exact h b.toFin

/-- The high four bits of a byte. -/
theorem high_bits (b : BitVec 8) : IntOp.shrsi .host (b.setWidth 32) 4#32 = BitVec.ofNat 32 (nib b 1) := by
  have h : ∀ k : Fin 256, IntOp.shrsi .host ((BitVec.ofFin k : BitVec 8).setWidth 32) 4#32 = BitVec.ofNat 32 (nib (BitVec.ofFin k) 1) := by decide +kernel
  exact h b.toFin

/-- Widening a signed byte first does not change its value. -/
theorem sitofp_widened (b : BitVec 8) : (FloatOps.sitofp (F := Ideal) .f32 (b.signExtend 32) : EReal) = FloatOps.sitofp (F := Ideal) .f32 b := by
  show (((b.signExtend 32).toInt : ℝ) : EReal) = ((b.toInt : ℝ) : EReal)
  rw [BitVec.toInt_signExtend_of_le (by decide)]

section
variable (X : Vec Ideal S128x1x8192 .bf16) (W : Vec Ideal S4096x7168 .i8) (C : Vec Ideal S128x7168 .i8) (S : Vec Ideal S128x28 .f32) (O : Vec Ideal S_ .f32)

/-- The absmax array at an index. -/
theorem absmax_apply (b : Fin 128) (n : Fin 7168) : val_main_v8 (F := Ideal) C S O (ix2 (n0 := 128) (n1 := 7168) b n) = absmax C S O b n := by
  rw [val_main_v8_apply, val_main_v7_apply, val_main_v5_apply, val_main_v6_apply, val_main_v2_apply, val_main_v1_apply, val_main_v0_apply, val_main_v4_apply, val_main_v3_apply]
  rw [sitofp_widened]
  unfold absmax
  have e1 : idx_main_v2 (idx_main_v8 (ix2 (n0 := 128) (n1 := 7168) b n)) = ix2 (n0 := 128) (n1 := 7168) b n := by
    funext a; apply Fin.ext
    match a with
    | ⟨0, _⟩ =>
      show (((b.val * 7168 + n.val) / 7168 * 28 + (b.val * 7168 + n.val) / 256 % 28) * 256 + (b.val * 7168 + n.val) % 256) / 7168 = b.val
      omega
    | ⟨1, _⟩ =>
      show (((b.val * 7168 + n.val) / 7168 * 28 + (b.val * 7168 + n.val) / 256 % 28) * 256 + (b.val * 7168 + n.val) % 256) % 7168 = n.val
      omega
  have e2 : idx_main_v3 (idx_main_v4 (idx_main_v8 (ix2 (n0 := 128) (n1 := 7168) b n))) = ix2 (n0 := 128) (n1 := 28) b ⟨n.val / 256, by omega⟩ := by
    funext a; apply Fin.ext
    match a with
    | ⟨0, _⟩ => show (b.val * 7168 + n.val) / 7168 = b.val; omega
    | ⟨1, _⟩ => show (b.val * 7168 + n.val) / 256 % 28 = n.val / 256; omega
  rw [e1, e2]
  rfl

/-- The level of the low code. -/
theorem low_level (i : S4096x7168.Idx) : val_main_v50 (F := Ideal) W i = level ⟨nib (W i) 0, nib_lt _ _⟩ := by
  have h : val_main_v50 (F := Ideal) W i = pick (IntOp.andi ((W i).setWidth 32) 15#32) := rfl
  rw [h, low_bits]
  exact pick_eq ⟨nib (W i) 0, nib_lt _ _⟩

/-- The level of the high code. -/
theorem high_level (i : S4096x7168.Idx) : val_main_v98 (F := Ideal) W i = level ⟨nib (W i) 1, nib_lt _ _⟩ := by
  have h : val_main_v98 (F := Ideal) W i = pick (IntOp.shrsi .host ((W i).setWidth 32) 4#32) := rfl
  rw [h, high_bits]
  exact pick_eq ⟨nib (W i) 1, nib_lt _ _⟩

/-- The low half of the weight: byte row `r` is column `2 r`. -/
theorem low_weight (r : Fin 4096) (n : Fin 7168) :
    val_main_v56 (F := Ideal) W C S O (ix2 (n0 := 4096) (n1 := 7168) r n) = weight W C S O ⟨2 * r.val, by omega⟩ n := by
  show val_main_v55 (F := Ideal) W C S O (ix2 (n0 := 4096) (n1 := 7168) r n) = _
  rw [val_main_v55_apply]
  show (val_main_v51 (F := Ideal) W _ : EReal) * val_main_v53 (F := Ideal) C S O _ = _
  rw [val_main_v51_apply, val_main_v53_apply, val_main_v52_apply, low_level]
  have e1 : idx_main_v51 (idx_main_v55 (ix2 (n0 := 4096) (n1 := 7168) r n)) = ix2 (n0 := 4096) (n1 := 7168) ⟨2 * r.val / 2, by omega⟩ n := by
    funext a; apply Fin.ext
    match a with
    | ⟨0, _⟩ => show (((r.val * 7168 + n.val) / 229376 * 32 + (r.val * 7168 + n.val) / 7168 % 32) * 7168 + (r.val * 7168 + n.val) % 7168) / 7168 = 2 * r.val / 2; omega
    | ⟨1, _⟩ => show (((r.val * 7168 + n.val) / 229376 * 32 + (r.val * 7168 + n.val) / 7168 % 32) * 7168 + (r.val * 7168 + n.val) % 7168) % 7168 = n.val; omega
  have e2 : idx_main_v52 (idx_main_v53 (idx_main_v55 (ix2 (n0 := 4096) (n1 := 7168) r n))) = ix2 (n0 := 128) (n1 := 7168) ⟨2 * r.val / 64, by omega⟩ n := by
    funext a; apply Fin.ext
    match a with
    | ⟨0, _⟩ => show (r.val * 7168 + n.val) / 229376 = 2 * r.val / 64; omega
    | ⟨1, _⟩ => show (r.val * 7168 + n.val) % 7168 = n.val; omega
  have e3 : 2 * r.val % 2 = 0 := by omega
  unfold weight
  rw [e2, absmax_apply]
  simp only [e1, e3]

/-- The high half of the weight: byte row `r` is column `2 r + 1`. -/
theorem high_weight (r : Fin 4096) (n : Fin 7168) :
    val_main_v104 (F := Ideal) W C S O (ix2 (n0 := 4096) (n1 := 7168) r n) = weight W C S O ⟨2 * r.val + 1, by omega⟩ n := by
  show val_main_v103 (F := Ideal) W C S O (ix2 (n0 := 4096) (n1 := 7168) r n) = _
  rw [val_main_v103_apply]
  show (val_main_v99 (F := Ideal) W _ : EReal) * val_main_v101 (F := Ideal) C S O _ = _
  rw [val_main_v99_apply, val_main_v101_apply, val_main_v100_apply, high_level]
  have e1 : idx_main_v99 (idx_main_v103 (ix2 (n0 := 4096) (n1 := 7168) r n)) = ix2 (n0 := 4096) (n1 := 7168) ⟨(2 * r.val + 1) / 2, by omega⟩ n := by
    funext a; apply Fin.ext
    match a with
    | ⟨0, _⟩ => show (((r.val * 7168 + n.val) / 229376 * 32 + (r.val * 7168 + n.val) / 7168 % 32) * 7168 + (r.val * 7168 + n.val) % 7168) / 7168 = (2 * r.val + 1) / 2; omega
    | ⟨1, _⟩ => show (((r.val * 7168 + n.val) / 229376 * 32 + (r.val * 7168 + n.val) / 7168 % 32) * 7168 + (r.val * 7168 + n.val) % 7168) % 7168 = n.val; omega
  have e2 : idx_main_v100 (idx_main_v101 (idx_main_v103 (ix2 (n0 := 4096) (n1 := 7168) r n))) = ix2 (n0 := 128) (n1 := 7168) ⟨(2 * r.val + 1) / 64, by omega⟩ n := by
    funext a; apply Fin.ext
    match a with
    | ⟨0, _⟩ => show (r.val * 7168 + n.val) / 229376 = (2 * r.val + 1) / 64; omega
    | ⟨1, _⟩ => show (r.val * 7168 + n.val) % 7168 = n.val; omega
  have e3 : (2 * r.val + 1) % 2 = 1 := by omega
  unfold weight
  rw [e2, absmax_apply]
  simp only [e1, e3]

/-- The reference's result at an index. -/
theorem result_apply (m : Fin 128) (n : Fin 7168) :
    val_main_v111 (F := Ideal) X W C S O (ix2 (n0 := 128) (n1 := 7168) m n) = linear X W C S O m n := by
  have e : idx_main_v111 (ix2 (n0 := 128) (n1 := 7168) m n) = ix3 (n0 := 128) (n1 := 1) (n2 := 7168) m 0 n := by
    funext a; apply Fin.ext
    match a with
    | ⟨0, _⟩ => show (m.val * 7168 + n.val) / 7168 = m.val; omega
    | ⟨1, _⟩ => rfl
    | ⟨2, _⟩ => show (m.val * 7168 + n.val) % 7168 = n.val; omega
  rw [val_main_v111_apply, e]
  show (val_main_v106 (F := Ideal) X W C S O (ix3 (n0 := 128) (n1 := 1) (n2 := 7168) m 0 n) : EReal) + val_main_v108 (F := Ideal) X W C S O (ix3 (n0 := 128) (n1 := 1) (n2 := 7168) m 0 n) = _
  rw [val_main_v106_apply, val_main_v108_apply]
  unfold linear
  rw [← Cert.Spec.even_odd]
  refine congrArg₂ (fun a b : EReal => a + b) (Finset.sum_congr rfl fun k _ => ?_) (Finset.sum_congr rfl fun k _ => ?_)
  · have er : ridx_main_v106 (ix3 (n0 := 128) (n1 := 1) (n2 := 7168) m 0 n) k = ix2 (n0 := 4096) (n1 := 7168) k n := by
      funext a; match a with | ⟨0, _⟩ => rfl | ⟨1, _⟩ => rfl
    have ex : val_main_v105 (F := Ideal) X (lidx_main_v106 (ix3 (n0 := 128) (n1 := 1) (n2 := 7168) m 0 n) k) = X (ix3 (n0 := 128) (n1 := 1) (n2 := 8192) m 0 ⟨2 * k.val, by omega⟩) := by
      unfold val_main_v105
      rw [Host.slice_apply]
      congr 1
      funext a; apply Fin.ext
      match a with
      | ⟨0, _⟩ => show 0 + 1 * m.val = m.val; omega
      | ⟨1, _⟩ => rfl
      | ⟨2, _⟩ => show 0 + 2 * k.val = 2 * k.val; omega
    rw [er, ex, low_weight]; rfl
  · have er : ridx_main_v108 (ix3 (n0 := 128) (n1 := 1) (n2 := 7168) m 0 n) k = ix2 (n0 := 4096) (n1 := 7168) k n := by
      funext a; match a with | ⟨0, _⟩ => rfl | ⟨1, _⟩ => rfl
    have ex : val_main_v107 (F := Ideal) X (lidx_main_v108 (ix3 (n0 := 128) (n1 := 1) (n2 := 7168) m 0 n) k) = X (ix3 (n0 := 128) (n1 := 1) (n2 := 8192) m 0 ⟨2 * k.val + 1, by omega⟩) := by
      unfold val_main_v107
      rw [Host.slice_apply]
      congr 1
      funext a; apply Fin.ext
      match a with
      | ⟨0, _⟩ => show 0 + 1 * m.val = m.val; omega
      | ⟨1, _⟩ => rfl
      | ⟨2, _⟩ => show 1 + 2 * k.val = 2 * k.val + 1; omega
    rw [er, ex, high_weight]; rfl

end

end Cert.ReferenceIdeal.Val

end
-- ==== Proof.Algebraic.lean ====
/-
  The kernel and the reference compute the same function: both give, at every index, the sum over the columns of the
  activation times the decoded weight.
-/
module

public import proofs.«01_k».proof.Defs
public import proofs.«01_k».proof.Proof.Point
public import proofs.«01_k».proof.Proof.Reference
public import proofs.«01_k».proof.Proof.Gen.ReferenceIdeal.Run

@[expose] public section

noncomputable section
open Idealize.ShloMosaic hiding ix2 ix3
open Idealize.ShloMosaic.TcCoe Idealize.SL.Sem
open Idealize.ShloMosaic.ValueIdx (ix2 ix3)

namespace Cert.Proof

/-- The two results agree on memories that agree on the arguments. -/
theorem results_agree (m : (ℓ : Loc Cert.KernelIdeal.nD Cert.KernelIdeal.τ Cert.KernelIdeal.sig) → Buf (Elt Ideal) ℓ) (c : Dev Cert.KernelIdeal.nD) :
    Cert.ReferenceIdeal.Read.val_main_v111 (F := Ideal)
        (m ((c : Thread Cert.KernelIdeal.nD Cert.KernelIdeal.τ).loc Cert.KernelIdeal.main_arg0)) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3))
        (m ((c : Thread Cert.KernelIdeal.nD Cert.KernelIdeal.τ).loc Cert.KernelIdeal.main_arg4))
      = Cert.KernelIdeal.Value.G6 m c := by
  funext j
  obtain ⟨r, n, rfl⟩ : ∃ (r : Fin 128) (n : Fin 7168), j = ix2 (n0 := 128) (n1 := 7168) r n := ⟨j 0, j 1, ValueIdx.eq_ix2 j⟩
  exact (Cert.ReferenceIdeal.Val.result_apply _ _ _ _ _ r n).trans (Cert.KernelIdeal.Val.G6_apply m c r n).symm

/-- From memories that agree on the arguments, kernel and reference end with the same result. -/
theorem algebraic : Cert.algebraic_KernelIdeal_ReferenceIdeal (hKernelIdeal := Cert.KernelIdeal.Gen.facts) (hReferenceIdeal := Cert.ReferenceIdeal.Gen.facts) := by
  intro m g m' g' _ ha
  refine ⟨fun c => Cert.KernelIdeal.Value.G6 m c, Cert.KernelIdeal.Value.run m g, ?_⟩
  refine (θ_run _ _ _).mono (fun _ h c => ⟨?_, (h c).2⟩) (Cert.ReferenceIdeal.Value.run m' g')
  obtain ⟨a0, a1, a2, a3, a4⟩ := ha c
  refine ((h c).1.trans (Cert.ReferenceIdeal.Read.val_main_v111_eq (StableHlo.launchContents m' c))).trans ?_
  refine Eq.trans ?_ (results_agree m c)
  rw [← a0, ← a1, ← a2, ← a3, ← a4]

end Cert.Proof

end
-- ==== Proof.lean ====
/- The certificate's claim, assembled. -/
module

public import proofs.«01_k».proof.Defs
public import proofs.«01_k».proof.Proof.Preserves
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.OpenA
public import proofs.«01_k».proof.Proof.Algebraic

@[expose] public section

open Idealize.ShloMosaic Idealize.SL.Sem in
/-- The reference runs on the host alone and has no semaphore. -/
theorem Cert.Proof.referenceFrame : Cert.quiescent_ReferenceIdeal (hReferenceIdeal := Cert.ReferenceIdeal.Gen.facts) := fun m ρ _ =>
  (θ_run _ _ _).mono (fun _ h => ⟨fun c => (h c).2, funext fun s => nomatch s⟩) (Cert.ReferenceIdeal.Value.run m ρ)

theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    Cert.Proof.referenceFrame, Cert.Proof.preserves, Cert.Proof.algebraic⟩
